-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_wn2 [hPre_finite_wn2 : Cert.Pre_finite_wn2.Facts] (m : (ℓ : Loc Cert.KernelIdeal.nD Cert.KernelIdeal.τ Cert.KernelIdeal.sig) → Buf (Elt Ideal) ℓ) : Prop :=
  ∀ c : Dev Cert.KernelIdeal.nD,
    (Cert.Pre_finite_wn2.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_wn2 [hPre_finite_wn2 : Cert.Pre_finite_wn2.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_wn2.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite_wn2 [hKernelIdeal : Cert.KernelIdeal.Facts] [hPre_finite_wn2 : Cert.Pre_finite_wn2.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_wn2 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite_wn2 [hReferenceIdeal : Cert.ReferenceIdeal.Facts] [hPre_finite_wn2 : Cert.Pre_finite_wn2.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_wn2 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_finite_wn2 [hKernelIdeal : Cert.KernelIdeal.Facts] [hReferenceIdeal : Cert.ReferenceIdeal.Facts] [hPre_finite_wn2 : Cert.Pre_finite_wn2.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_wn2 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v50_0)) (v1 : (c : Dev Cert.KernelIdeal.nD) → Buf (Elt Ideal) ((c.tc : Thread Cert.KernelIdeal.nD Cert.KernelIdeal.τ).loc Cert.KernelIdeal.main_v50_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50_0) = v0 c
          ∧ r.2.mem ((c.tc : Thread Cert.KernelIdeal.nD Cert.KernelIdeal.τ).loc Cert.KernelIdeal.main_v50_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_wn2 : Cert.Pre_finite_wn2.Facts),
    quiescent_Kernel (hKernel := hKernel)
    ∧ quiescent_KernelIdeal (hKernelIdeal := hKernelIdeal)
    ∧ quiescent_KernelIdeal_pre_finite_wn2 (hKernelIdeal := hKernelIdeal) (hPre_finite_wn2 := hPre_finite_wn2)
    ∧ quiescent_ReferenceIdeal (hReferenceIdeal := hReferenceIdeal)
    ∧ quiescent_ReferenceIdeal_pre_finite_wn2 (hReferenceIdeal := hReferenceIdeal) (hPre_finite_wn2 := hPre_finite_wn2)
    ∧ preserves_Kernel_KernelIdeal
    ∧ algebraic_KernelIdeal_ReferenceIdeal_pre_finite_wn2 (hKernelIdeal := hKernelIdeal) (hReferenceIdeal := hReferenceIdeal) (hPre_finite_wn2 := hPre_finite_wn2)
-- ==== Pre_finite_wn2.lean ====
abbrev S10000x128 : Shape := ⟨2, ![10000, 128]⟩
abbrev S10000x3 : Shape := ⟨2, ![10000, 3]⟩
abbrev S2x320000 : Shape := ⟨2, ![2, 320000]⟩
abbrev S320000 : Shape := ⟨1, ![320000]⟩
abbrev S1x16 : Shape := ⟨2, ![1, 16]⟩
abbrev S16 : Shape := ⟨1, ![16]⟩
abbrev S16x16 : Shape := ⟨2, ![16, 16]⟩
abbrev S272x128 : Shape := ⟨2, ![272, 128]⟩
abbrev S128 : Shape := ⟨1, ![128]⟩
abbrev S128x128 : Shape := ⟨2, ![128, 128]⟩
abbrev S128x1 : Shape := ⟨2, ![128, 1]⟩
abbrev S_ : Shape := ⟨0, ![]⟩

class Facts : Prop where
  bcast_S_S128x128 : S_.BroadcastsInDim S128x128 (![] : Fin 0 → Fin S128x128.rank)

variable [Facts]

def fn {F : FTy → Type} [FloatOps F] (main_arg0 : FVec F S10000x128 .f32) (main_arg1 : FVec F S10000x3 .f32) (main_arg2 : IVec S2x320000 32) (main_arg3 : FVec F S320000 .f32) (main_arg4 : FVec F S1x16 .f32) (main_arg5 : FVec F S16 .f32) (main_arg6 : FVec F S16x16 .f32) (main_arg7 : FVec F S16 .f32) (main_arg8 : FVec F S272x128 .f32) (main_arg9 : FVec F S128 .f32) (main_arg10 : FVec F S128x128 .f32) (main_arg11 : FVec F S128 .f32) (main_arg12 : FVec F S272x128 .f32) (main_arg13 : FVec F S128 .f32) (main_arg14 : FVec F S128x1 .f32) : IVec S128x128 1 :=
  let main_v0 : FVec F S128x128 .f32 := Host.absf main_arg10
  let main_cst : FVec F S_ .f32 := constant S_ .f32 0x7F800000#32
  let main_v1 : FVec F S128x128 .f32 := broadcastInDim S128x128 ![] bcast_S_S128x128 main_cst
  let main_v2 : IVec S128x128 1 := cmpf .olt main_v0 main_v1
  main_v2
-- ==== Kernel.lean ====
abbrev S10000x128 : Shape := ⟨2, ![10000, 128]⟩
abbrev S10000x3 : Shape := ⟨2, ![10000, 3]⟩
abbrev S2x320000 : Shape := ⟨2, ![2, 320000]⟩
abbrev S320000 : Shape := ⟨1, ![320000]⟩
abbrev S1x16 : Shape := ⟨2, ![1, 16]⟩
abbrev S16 : Shape := ⟨1, ![16]⟩
abbrev S16x16 : Shape := ⟨2, ![16, 16]⟩
abbrev S272x128 : Shape := ⟨2, ![272, 128]⟩
abbrev S128 : Shape := ⟨1, ![128]⟩
abbrev S128x128 : Shape := ⟨2, ![128, 128]⟩
abbrev S128x1 : Shape := ⟨2, ![128, 1]⟩
abbrev S1x320000 : Shape := ⟨2, ![1, 320000]⟩
abbrev S128x256 : Shape := ⟨2, ![128, 256]⟩
abbrev S16x128 : Shape := ⟨2, ![16, 128]⟩
abbrev S16x256 : Shape := ⟨2, ![16, 256]⟩
abbrev S256 : Shape := ⟨1, ![256]⟩
abbrev S1x256 : Shape := ⟨2, ![1, 256]⟩
abbrev S_ : Shape := ⟨0, ![]⟩
abbrev S8x256 : Shape := ⟨2, ![8, 256]⟩
abbrev S8x16 : Shape := ⟨2, ![8, 16]⟩
abbrev S1x128 : Shape := ⟨2, ![1, 128]⟩
abbrev S8x128 : Shape := ⟨2, ![8, 128]⟩
abbrev S10000x16 : Shape := ⟨2, ![10000, 16]⟩
abbrev S320000x1 : Shape := ⟨2, ![320000, 1]⟩
abbrev S1 : Shape := ⟨1, ![1]⟩
abbrev S1x1 : Shape := ⟨2, ![1, 1]⟩
abbrev S320000x128 : Shape := ⟨2, ![320000, 128]⟩
abbrev S320000x16 : Shape := ⟨2, ![320000, 16]⟩
abbrev S2560x1 : Shape := ⟨2, ![2560, 1]⟩
abbrev S2560x128 : Shape := ⟨2, ![2560, 128]⟩
abbrev S2560x16 : Shape := ⟨2, ![2560, 16]⟩
abbrev S2560x256 : Shape := ⟨2, ![2560, 256]⟩
abbrev S2560 : Shape := ⟨1, ![2560]⟩
abbrev S160000x128 : Shape := ⟨2, ![160000, 128]⟩
abbrev S160000 : Shape := ⟨1, ![160000]⟩
abbrev S160000x1 : Shape := ⟨2, ![160000, 1]⟩
abbrev S160000x16 : Shape := ⟨2, ![160000, 16]⟩
abbrev S2000x128 : Shape := ⟨2, ![2000, 128]⟩
abbrev S2000x3 : Shape := ⟨2, ![2000, 3]⟩
abbrev S2000x16 : Shape := ⟨2, ![2000, 16]⟩
abbrev S2000x1 : Shape := ⟨2, ![2000, 1]⟩

abbrev nBuf : Space → Nat
  | .hbm => 172
  | .vmem => 41
  | .smem => 0
  | _ => 0

abbrev hbmTy0_0 (i : Nat) : BufTy := match i % 128 with
  | 0 => ⟨S10000x128, .f32⟩
  | 1 => ⟨S10000x3, .f32⟩
  | 2 => ⟨S2x320000, .i32⟩
  | 3 => ⟨S320000, .f32⟩
  | 4 => ⟨S1x16, .f32⟩
  | 5 => ⟨S16, .f32⟩
  | 6 => ⟨S16x16, .f32⟩
  | 7 => ⟨S16, .f32⟩
  | 8 => ⟨S272x128, .f32⟩
  | 9 => ⟨S128, .f32⟩
  | 10 => ⟨S128x128, .f32⟩
  | 11 => ⟨S128, .f32⟩
  | 12 => ⟨S272x128, .f32⟩
  | 13 => ⟨S128, .f32⟩
  | 14 => ⟨S128x1, .f32⟩
  | 15 => ⟨S1x320000, .i32⟩
  | 16 => ⟨S320000, .i32⟩
  | 17 => ⟨S1x320000, .i32⟩
  | 18 => ⟨S320000, .i32⟩
  | 19 => ⟨S128x128, .f32⟩
  | 20 => ⟨S128x128, .f32⟩
  | 21 => ⟨S128x256, .f32⟩
  | 22 => ⟨S128x128, .f32⟩
  | 23 => ⟨S128x128, .f32⟩
  | 24 => ⟨S128x256, .f32⟩
  | 25 => ⟨S16x128, .f32⟩
  | 26 => ⟨S16x128, .f32⟩
  | 27 => ⟨S16x256, .f32⟩
  | 28 => ⟨S256, .f32⟩
  | 29 => ⟨S1x256, .f32⟩
  | 30 => ⟨S_, .i32⟩
  | 31 => ⟨S_, .f32⟩
  | 32 => ⟨S8x256, .f32⟩
  | 33 => ⟨S_, .i32⟩
  | 34 => ⟨S_, .f32⟩
  | 35 => ⟨S8x16, .f32⟩
  | 36 => ⟨S1x16, .f32⟩
  | 37 => ⟨S_, .i32⟩
  | 38 => ⟨S_, .f32⟩
  | 39 => ⟨S8x16, .f32⟩
  | 40 => ⟨S1x16, .f32⟩
  | 41 => ⟨S_, .i32⟩
  | 42 => ⟨S_, .f32⟩
  | 43 => ⟨S8x16, .f32⟩
  | 44 => ⟨S1x128, .f32⟩
  | 45 => ⟨S_, .i32⟩
  | 46 => ⟨S_, .f32⟩
  | 47 => ⟨S8x128, .f32⟩
  | 48 => ⟨S_, .i32⟩
  | 49 => ⟨S_, .f32⟩
  | 50 => ⟨S10000x16, .f32⟩
  | 51 => ⟨S_, .i32⟩
  | 52 => ⟨S320000, .i32⟩
  | 53 => ⟨S320000, .i1⟩
  | 54 => ⟨S_, .i32⟩
  | 55 => ⟨S320000, .i32⟩
  | 56 => ⟨S320000, .i32⟩
  | 57 => ⟨S320000, .i32⟩
  | 58 => ⟨S320000x1, .i32⟩
  | 59 => ⟨S1, .i32⟩
  | 60 => ⟨S_, .i32⟩
  | 61 => ⟨S320000x1, .i32⟩
  | 62 => ⟨S320000x1, .i1⟩
  | 63 => ⟨S1x1, .i32⟩
  | 64 => ⟨S320000x1, .i32⟩
  | 65 => ⟨S320000x1, .i1⟩
  | 66 => ⟨S320000x1, .i1⟩
  | 67 => ⟨S_, .i1⟩
  | 68 => ⟨S320000, .i1⟩
  | 69 => ⟨S320000x128, .f32⟩
  | 70 => ⟨S320000x128, .i1⟩
  | 71 => ⟨S_, .f32⟩
  | 72 => ⟨S320000x128, .f32⟩
  | 73 => ⟨S320000x128, .f32⟩
  | 74 => ⟨S_, .i32⟩
  | 75 => ⟨S320000, .i32⟩
  | 76 => ⟨S320000, .i1⟩
  | 77 => ⟨S_, .i32⟩
  | 78 => ⟨S320000, .i32⟩
  | 79 => ⟨S320000, .i32⟩
  | 80 => ⟨S320000, .i32⟩
  | 81 => ⟨S320000x1, .i32⟩
  | 82 => ⟨S1, .i32⟩
  | 83 => ⟨S_, .i32⟩
  | 84 => ⟨S320000x1, .i32⟩
  | 85 => ⟨S320000x1, .i1⟩
  | 86 => ⟨S1x1, .i32⟩
  | 87 => ⟨S320000x1, .i32⟩
  | 88 => ⟨S320000x1, .i1⟩
  | 89 => ⟨S320000x1, .i1⟩
  | 90 => ⟨S_, .i1⟩
  | 91 => ⟨S320000, .i1⟩
  | 92 => ⟨S320000x128, .f32⟩
  | 93 => ⟨S320000x128, .i1⟩
  | 94 => ⟨S_, .f32⟩
  | 95 => ⟨S320000x128, .f32⟩
  | 96 => ⟨S320000x128, .f32⟩
  | 97 => ⟨S_, .i32⟩
  | 98 => ⟨S320000, .i32⟩
  | 99 => ⟨S320000, .i1⟩
  | 100 => ⟨S_, .i32⟩
  | 101 => ⟨S320000, .i32⟩
  | 102 => ⟨S320000, .i32⟩
  | 103 => ⟨S320000, .i32⟩
  | 104 => ⟨S320000x1, .i32⟩
  | 105 => ⟨S1, .i32⟩
  | 106 => ⟨S_, .i32⟩
  | 107 => ⟨S320000x1, .i32⟩
  | 108 => ⟨S320000x1, .i1⟩
  | 109 => ⟨S1x1, .i32⟩
  | 110 => ⟨S320000x1, .i32⟩
  | 111 => ⟨S320000x1, .i1⟩
  | 112 => ⟨S320000x1, .i1⟩
  | 113 => ⟨S_, .i1⟩
  | 114 => ⟨S320000, .i1⟩
  | 115 => ⟨S320000x16, .f32⟩
  | 116 => ⟨S320000x16, .i1⟩
  | 117 => ⟨S_, .f32⟩
  | 118 => ⟨S320000x16, .f32⟩
  | 119 => ⟨S320000x16, .f32⟩
  | 120 => ⟨S_, .i32⟩
  | 121 => ⟨S320000, .i32⟩
  | 122 => ⟨S320000, .i1⟩
  | 123 => ⟨S_, .i32⟩
  | 124 => ⟨S320000, .i32⟩
  | 125 => ⟨S320000, .i32⟩
  | 126 => ⟨S320000, .i32⟩
  | 127 => ⟨S320000x1, .i32⟩
  | _ => ⟨S10000x128, .f32⟩

abbrev hbmTy0_1 (i : Nat) : BufTy := match i % 128 with
  | 0 => ⟨S1, .i32⟩
  | 1 => ⟨S_, .i32⟩
  | 2 => ⟨S320000x1, .i32⟩
  | 3 => ⟨S320000x1, .i1⟩
  | 4 => ⟨S1x1, .i32⟩
  | 5 => ⟨S320000x1, .i32⟩
  | 6 => ⟨S320000x1, .i1⟩
  | 7 => ⟨S320000x1, .i1⟩
  | 8 => ⟨S_, .i1⟩
  | 9 => ⟨S320000, .i1⟩
  | 10 => ⟨S320000x16, .f32⟩
  | 11 => ⟨S320000x16, .i1⟩
  | 12 => ⟨S_, .f32⟩
  | 13 => ⟨S320000x16, .f32⟩
  | 14 => ⟨S320000x16, .f32⟩
  | 15 => ⟨S320000x1, .f32⟩
  | 16 => ⟨S320000x128, .f32⟩
  | 17 => ⟨S320000x16, .f32⟩
  | 18 => ⟨S160000x128, .f32⟩
  | 19 => ⟨S160000, .i32⟩
  | 20 => ⟨S_, .f32⟩
  | 21 => ⟨S10000x128, .f32⟩
  | 22 => ⟨S160000x1, .i32⟩
  | 23 => ⟨S10000x128, .f32⟩
  | 24 => ⟨S160000x128, .f32⟩
  | 25 => ⟨S160000, .i32⟩
  | 26 => ⟨S_, .f32⟩
  | 27 => ⟨S10000x128, .f32⟩
  | 28 => ⟨S160000x1, .i32⟩
  | 29 => ⟨S10000x128, .f32⟩
  | 30 => ⟨S160000x16, .f32⟩
  | 31 => ⟨S160000, .i32⟩
  | 32 => ⟨S_, .f32⟩
  | 33 => ⟨S10000x16, .f32⟩
  | 34 => ⟨S160000x1, .i32⟩
  | 35 => ⟨S10000x16, .f32⟩
  | 36 => ⟨S160000x16, .f32⟩
  | 37 => ⟨S160000, .i32⟩
  | 38 => ⟨S_, .f32⟩
  | 39 => ⟨S10000x16, .f32⟩
  | 40 => ⟨S160000x1, .i32⟩
  | 41 => ⟨S10000x16, .f32⟩
  | 42 => ⟨S10000x128, .f32⟩
  | 43 => ⟨S10000x3, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | .local _ .vmem, ⟨0, _⟩ => ⟨S2560x1, .f32⟩
  | .local _ .vmem, ⟨1, _⟩ => ⟨S2560x1, .f32⟩
  | .local _ .vmem, ⟨2, _⟩ => ⟨S2560x128, .f32⟩
  | .local _ .vmem, ⟨3, _⟩ => ⟨S2560x128, .f32⟩
  | .local _ .vmem, ⟨4, _⟩ => ⟨S2560x128, .f32⟩
  | .local _ .vmem, ⟨5, _⟩ => ⟨S2560x128, .f32⟩
  | .local _ .vmem, ⟨6, _⟩ => ⟨S2560x16, .f32⟩
  | .local _ .vmem, ⟨7, _⟩ => ⟨S2560x16, .f32⟩
  | .local _ .vmem, ⟨8, _⟩ => ⟨S2560x16, .f32⟩
  | .local _ .vmem, ⟨9, _⟩ => ⟨S2560x16, .f32⟩
  | .local _ .vmem, ⟨10, _⟩ => ⟨S128x256, .f32⟩
  | .local _ .vmem, ⟨11, _⟩ => ⟨S128x256, .f32⟩
  | .local _ .vmem, ⟨12, _⟩ => ⟨S16x256, .f32⟩
  | .local _ .vmem, ⟨13, _⟩ => ⟨S8x256, .f32⟩
  | .local _ .vmem, ⟨14, _⟩ => ⟨S128x1, .f32⟩
  | .local _ .vmem, ⟨15, _⟩ => ⟨S8x16, .f32⟩
  | .local _ .vmem, ⟨16, _⟩ => ⟨S8x16, .f32⟩
  | .local _ .vmem, ⟨17, _⟩ => ⟨S16x16, .f32⟩
  | .local _ .vmem, ⟨18, _⟩ => ⟨S8x16, .f32⟩
  | .local _ .vmem, ⟨19, _⟩ => ⟨S2560x128, .f32⟩
  | .local _ .vmem, ⟨20, _⟩ => ⟨S2560x128, .f32⟩
  | .local _ .vmem, ⟨21, _⟩ => ⟨S2560x16, .f32⟩
  | .local _ .vmem, ⟨22, _⟩ => ⟨S2560x16, .f32⟩
  | .local _ .vmem, ⟨23, _⟩ => ⟨S2000x128, .f32⟩
  | .local _ .vmem, ⟨24, _⟩ => ⟨S2000x128, .f32⟩
  | .local _ .vmem, ⟨25, _⟩ => ⟨S2000x3, .f32⟩
  | .local _ .vmem, ⟨26, _⟩ => ⟨S2000x3, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x16, .f32⟩
  | .local _ .vmem, ⟨32, _⟩ => ⟨S2000x16, .f32⟩
  | .local _ .vmem, ⟨33, _⟩ => ⟨S2000x16, .f32⟩
  | .local _ .vmem, ⟨34, _⟩ => ⟨S2000x16, .f32⟩
  | .local _ .vmem, ⟨35, _⟩ => ⟨S128x128, .f32⟩
  | .local _ .vmem, ⟨36, _⟩ => ⟨S8x128, .f32⟩
  | .local _ .vmem, ⟨37, _⟩ => ⟨S2000x128, .f32⟩
  | .local _ .vmem, ⟨38, _⟩ => ⟨S2000x128, .f32⟩
  | .local _ .vmem, ⟨39, _⟩ => ⟨S2000x3, .f32⟩
  | .local _ .vmem, ⟨40, _⟩ => ⟨S2000x3, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c : Ref sig .tc := ⟨.hbm, 30, rfl⟩
abbrev main_call0_v0 : Ref sig .tc := ⟨.hbm, 31, rfl⟩
abbrev main_v15 : Ref sig .tc := ⟨.hbm, 32, rfl⟩
abbrev main_c_0 : Ref sig .tc := ⟨.hbm, 33, rfl⟩
abbrev main_call1_v0 : Ref sig .tc := ⟨.hbm, 34, rfl⟩
abbrev main_v16 : Ref sig .tc := ⟨.hbm, 35, rfl⟩
abbrev main_v17 : Ref sig .tc := ⟨.hbm, 36, rfl⟩
abbrev main_c_1 : Ref sig .tc := ⟨.hbm, 37, rfl⟩
abbrev main_call2_v0 : Ref sig .tc := ⟨.hbm, 38, rfl⟩
abbrev main_v18 : Ref sig .tc := ⟨.hbm, 39, rfl⟩
abbrev main_v19 : Ref sig .tc := ⟨.hbm, 40, rfl⟩
abbrev main_c_2 : Ref sig .tc := ⟨.hbm, 41, rfl⟩
abbrev main_call3_v0 : Ref sig .tc := ⟨.hbm, 42, rfl⟩
abbrev main_v20 : Ref sig .tc := ⟨.hbm, 43, rfl⟩
abbrev main_v21 : Ref sig .tc := ⟨.hbm, 44, rfl⟩
abbrev main_c_3 : Ref sig .tc := ⟨.hbm, 45, rfl⟩
abbrev main_call4_v0 : Ref sig .tc := ⟨.hbm, 46, rfl⟩
abbrev main_v22 : Ref sig .tc := ⟨.hbm, 47, rfl⟩
abbrev main_c_4 : Ref sig .tc := ⟨.hbm, 48, rfl⟩
abbrev main_call5_v0 : Ref sig .tc := ⟨.hbm, 49, rfl⟩
abbrev main_v23 : Ref sig .tc := ⟨.hbm, 50, rfl⟩
abbrev main_call6_c : Ref sig .tc := ⟨.hbm, 51, rfl⟩
abbrev main_call6_v0 : Ref sig .tc := ⟨.hbm, 52, rfl⟩
abbrev main_call6_v1 : Ref sig .tc := ⟨.hbm, 53, rfl⟩
abbrev main_call6_c_0 : Ref sig .tc := ⟨.hbm, 54, rfl⟩
abbrev main_call6_v2 : Ref sig .tc := ⟨.hbm, 55, rfl⟩
abbrev main_call6_v3 : Ref sig .tc := ⟨.hbm, 56, rfl⟩
abbrev main_call6_v4 : Ref sig .tc := ⟨.hbm, 57, rfl⟩
abbrev main_call6_v5 : Ref sig .tc := ⟨.hbm, 58, rfl⟩
abbrev main_call6_c_1 : Ref sig .tc := ⟨.hbm, 59, rfl⟩
abbrev main_call6_c_2 : Ref sig .tc := ⟨.hbm, 60, rfl⟩
abbrev main_call6_v6 : Ref sig .tc := ⟨.hbm, 61, rfl⟩
abbrev main_call6_v7 : Ref sig .tc := ⟨.hbm, 62, rfl⟩
abbrev main_call6_v8 : Ref sig .tc := ⟨.hbm, 63, rfl⟩
abbrev main_call6_v9 : Ref sig .tc := ⟨.hbm, 64, rfl⟩
abbrev main_call6_v10 : Ref sig .tc := ⟨.hbm, 65, rfl⟩
abbrev main_call6_v11 : Ref sig .tc := ⟨.hbm, 66, rfl⟩
abbrev main_call6_c_3 : Ref sig .tc := ⟨.hbm, 67, rfl⟩
abbrev main_call6_v12 : Ref sig .tc := ⟨.hbm, 68, rfl⟩
abbrev main_call6_v13 : Ref sig .tc := ⟨.hbm, 69, rfl⟩
abbrev main_call6_v14 : Ref sig .tc := ⟨.hbm, 70, rfl⟩
abbrev main_call6_cst : Ref sig .tc := ⟨.hbm, 71, rfl⟩
abbrev main_call6_v15 : Ref sig .tc := ⟨.hbm, 72, rfl⟩
abbrev main_v24 : Ref sig .tc := ⟨.hbm, 73, rfl⟩
abbrev main_call7_c : Ref sig .tc := ⟨.hbm, 74, rfl⟩
abbrev main_call7_v0 : Ref sig .tc := ⟨.hbm, 75, rfl⟩
abbrev main_call7_v1 : Ref sig .tc := ⟨.hbm, 76, rfl⟩
abbrev main_call7_c_0 : Ref sig .tc := ⟨.hbm, 77, rfl⟩
abbrev main_call7_v2 : Ref sig .tc := ⟨.hbm, 78, rfl⟩
abbrev main_call7_v3 : Ref sig .tc := ⟨.hbm, 79, rfl⟩
abbrev main_call7_v4 : Ref sig .tc := ⟨.hbm, 80, rfl⟩
abbrev main_call7_v5 : Ref sig .tc := ⟨.hbm, 81, rfl⟩
abbrev main_call7_c_1 : Ref sig .tc := ⟨.hbm, 82, rfl⟩
abbrev main_call7_c_2 : Ref sig .tc := ⟨.hbm, 83, rfl⟩
abbrev main_call7_v6 : Ref sig .tc := ⟨.hbm, 84, rfl⟩
abbrev main_call7_v7 : Ref sig .tc := ⟨.hbm, 85, rfl⟩
abbrev main_call7_v8 : Ref sig .tc := ⟨.hbm, 86, rfl⟩
abbrev main_call7_v9 : Ref sig .tc := ⟨.hbm, 87, rfl⟩
abbrev main_call7_v10 : Ref sig .tc := ⟨.hbm, 88, rfl⟩
abbrev main_call7_v11 : Ref sig .tc := ⟨.hbm, 89, rfl⟩
abbrev main_call7_c_3 : Ref sig .tc := ⟨.hbm, 90, rfl⟩
abbrev main_call7_v12 : Ref sig .tc := ⟨.hbm, 91, rfl⟩
abbrev main_call7_v13 : Ref sig .tc := ⟨.hbm, 92, rfl⟩
abbrev main_call7_v14 : Ref sig .tc := ⟨.hbm, 93, rfl⟩
abbrev main_call7_cst : Ref sig .tc := ⟨.hbm, 94, rfl⟩
abbrev main_call7_v15 : Ref sig .tc := ⟨.hbm, 95, rfl⟩
abbrev main_v25 : Ref sig .tc := ⟨.hbm, 96, rfl⟩
abbrev main_call8_c : Ref sig .tc := ⟨.hbm, 97, rfl⟩
abbrev main_call8_v0 : Ref sig .tc := ⟨.hbm, 98, rfl⟩
abbrev main_call8_v1 : Ref sig .tc := ⟨.hbm, 99, rfl⟩
abbrev main_call8_c_0 : Ref sig .tc := ⟨.hbm, 100, rfl⟩
abbrev main_call8_v2 : Ref sig .tc := ⟨.hbm, 101, rfl⟩
abbrev main_call8_v3 : Ref sig .tc := ⟨.hbm, 102, rfl⟩
abbrev main_call8_v4 : Ref sig .tc := ⟨.hbm, 103, rfl⟩
abbrev main_call8_v5 : Ref sig .tc := ⟨.hbm, 104, rfl⟩
abbrev main_call8_c_1 : Ref sig .tc := ⟨.hbm, 105, rfl⟩
abbrev main_call8_c_2 : Ref sig .tc := ⟨.hbm, 106, rfl⟩
abbrev main_call8_v6 : Ref sig .tc := ⟨.hbm, 107, rfl⟩
abbrev main_call8_v7 : Ref sig .tc := ⟨.hbm, 108, rfl⟩
abbrev main_call8_v8 : Ref sig .tc := ⟨.hbm, 109, rfl⟩
abbrev main_call8_v9 : Ref sig .tc := ⟨.hbm, 110, rfl⟩
abbrev main_call8_v10 : Ref sig .tc := ⟨.hbm, 111, rfl⟩
abbrev main_call8_v11 : Ref sig .tc := ⟨.hbm, 112, rfl⟩
abbrev main_call8_c_3 : Ref sig .tc := ⟨.hbm, 113, rfl⟩
abbrev main_call8_v12 : Ref sig .tc := ⟨.hbm, 114, rfl⟩
abbrev main_call8_v13 : Ref sig .tc := ⟨.hbm, 115, rfl⟩
abbrev main_call8_v14 : Ref sig .tc := ⟨.hbm, 116, rfl⟩
abbrev main_call8_cst : Ref sig .tc := ⟨.hbm, 117, rfl⟩
abbrev main_call8_v15 : Ref sig .tc := ⟨.hbm, 118, rfl⟩
abbrev main_v26 : Ref sig .tc := ⟨.hbm, 119, rfl⟩
abbrev main_call9_c : Ref sig .tc := ⟨.hbm, 120, rfl⟩
abbrev main_call9_v0 : Ref sig .tc := ⟨.hbm, 121, rfl⟩
abbrev main_call9_v1 : Ref sig .tc := ⟨.hbm, 122, rfl⟩
abbrev main_call9_c_0 : Ref sig .tc := ⟨.hbm, 123, rfl⟩
abbrev main_call9_v2 : Ref sig .tc := ⟨.hbm, 124, rfl⟩
abbrev main_call9_v3 : Ref sig .tc := ⟨.hbm, 125, rfl⟩
abbrev main_call9_v4 : Ref sig .tc := ⟨.hbm, 126, rfl⟩
abbrev main_call9_v5 : Ref sig .tc := ⟨.hbm, 127, rfl⟩
abbrev main_call9_c_1 : Ref sig .tc := ⟨.hbm, 128, rfl⟩
abbrev main_call9_c_2 : Ref sig .tc := ⟨.hbm, 129, rfl⟩
abbrev main_call9_v6 : Ref sig .tc := ⟨.hbm, 130, rfl⟩
abbrev main_call9_v7 : Ref sig .tc := ⟨.hbm, 131, rfl⟩
abbrev main_call9_v8 : Ref sig .tc := ⟨.hbm, 132, rfl⟩
abbrev main_call9_v9 : Ref sig .tc := ⟨.hbm, 133, rfl⟩
abbrev main_call9_v10 : Ref sig .tc := ⟨.hbm, 134, rfl⟩
abbrev main_call9_v11 : Ref sig .tc := ⟨.hbm, 135, rfl⟩
abbrev main_call9_c_3 : Ref sig .tc := ⟨.hbm, 136, rfl⟩
abbrev main_call9_v12 : Ref sig .tc := ⟨.hbm, 137, rfl⟩
abbrev main_call9_v13 : Ref sig .tc := ⟨.hbm, 138, rfl⟩
abbrev main_call9_v14 : Ref sig .tc := ⟨.hbm, 139, rfl⟩
abbrev main_call9_cst : Ref sig .tc := ⟨.hbm, 140, rfl⟩
abbrev main_call9_v15 : Ref sig .tc := ⟨.hbm, 141, rfl⟩
abbrev main_v27 : Ref sig .tc := ⟨.hbm, 142, rfl⟩
abbrev main_v28 : Ref sig .tc := ⟨.hbm, 143, rfl⟩
abbrev main_v29_0 : Ref sig .tc := ⟨.hbm, 144, rfl⟩
abbrev main_v29_1 : Ref sig .tc := ⟨.hbm, 145, rfl⟩
abbrev main_v30 : Ref sig .tc := ⟨.hbm, 146, rfl⟩
abbrev main_v31 : Ref sig .tc := ⟨.hbm, 147, rfl⟩
abbrev main_cst : Ref sig .tc := ⟨.hbm, 148, rfl⟩
abbrev main_v32 : Ref sig .tc := ⟨.hbm, 149, rfl⟩
abbrev main_v33 : Ref sig .tc := ⟨.hbm, 150, rfl⟩
abbrev main_v34 : Ref sig .tc := ⟨.hbm, 151, rfl⟩
abbrev main_v35 : Ref sig .tc := ⟨.hbm, 152, rfl⟩
abbrev main_v36 : Ref sig .tc := ⟨.hbm, 153, rfl⟩
abbrev main_cst_5 : Ref sig .tc := ⟨.hbm, 154, rfl⟩
abbrev main_v37 : Ref sig .tc := ⟨.hbm, 155, rfl⟩
abbrev main_v38 : Ref sig .tc := ⟨.hbm, 156, rfl⟩
abbrev main_v39 : Ref sig .tc := ⟨.hbm, 157, rfl⟩
abbrev main_v40 : Ref sig .tc := ⟨.hbm, 158, rfl⟩
abbrev main_v41 : Ref sig .tc := ⟨.hbm, 159, rfl⟩
abbrev main_cst_6 : Ref sig .tc := ⟨.hbm, 160, rfl⟩
abbrev main_v42 : Ref sig .tc := ⟨.hbm, 161, rfl⟩
abbrev main_v43 : Ref sig .tc := ⟨.hbm, 162, rfl⟩
abbrev main_v44 : Ref sig .tc := ⟨.hbm, 163, rfl⟩
abbrev main_v45 : Ref sig .tc := ⟨.hbm, 164, rfl⟩
abbrev main_v46 : Ref sig .tc := ⟨.hbm, 165, rfl⟩
abbrev main_cst_7 : Ref sig .tc := ⟨.hbm, 166, rfl⟩
abbrev main_v47 : Ref sig .tc := ⟨.hbm, 167, rfl⟩
abbrev main_v48 : Ref sig .tc := ⟨.hbm, 168, rfl⟩
abbrev main_v49 : Ref sig .tc := ⟨.hbm, 169, rfl⟩
abbrev main_v50_0 : Ref sig .tc := ⟨.hbm, 170, rfl⟩
abbrev main_v50_1 : Ref sig .tc := ⟨.hbm, 171, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc1_stg0_0 : Ref sig .tc := ⟨.vmem, 23, rfl⟩
abbrev cc1_stg0_1 : Ref sig .tc := ⟨.vmem, 24, rfl⟩
abbrev cc1_stg1_0 : Ref sig .tc := ⟨.vmem, 25, rfl⟩
abbrev cc1_stg1_1 : Ref sig .tc := ⟨.vmem, 26, rfl⟩
abbrev cc1_stg2_0 : Ref sig .tc := ⟨.vmem, 27, rfl⟩
abbrev cc1_stg2_1 : Ref sig .tc := ⟨.vmem, 28, rfl⟩
abbrev cc1_stg3_0 : Ref sig .tc := ⟨.vmem, 29, rfl⟩
abbrev cc1_stg3_1 : Ref sig .tc := ⟨.vmem, 30, rfl⟩
abbrev cc1_stg4_0 : Ref sig .tc := ⟨.vmem, 31, rfl⟩
abbrev cc1_stg4_1 : Ref sig .tc := ⟨.vmem, 32, rfl⟩
abbrev cc1_stg5_0 : Ref sig .tc := ⟨.vmem, 33, rfl⟩
abbrev cc1_stg5_1 : Ref sig .tc := ⟨.vmem, 34, rfl⟩
abbrev cc1_stg6_0 : Ref sig .tc := ⟨.vmem, 35, rfl⟩
abbrev cc1_stg7_0 : Ref sig .tc := ⟨.vmem, 36, rfl⟩
abbrev cc1_stg8_0 : Ref sig .tc := ⟨.vmem, 37, rfl⟩
abbrev cc1_stg8_1 : Ref sig .tc := ⟨.vmem, 38, rfl⟩
abbrev cc1_stg9_0 : Ref sig .tc := ⟨.vmem, 39, rfl⟩
abbrev cc1_stg9_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem15_1 : DmaSem sig := 22
abbrev cc1_sem0_0 : DmaSem sig := 23
abbrev cc1_sem0_1 : DmaSem sig := 24
abbrev cc1_sem1_0 : DmaSem sig := 25
abbrev cc1_sem1_1 : DmaSem sig := 26
abbrev cc1_sem2_0 : DmaSem sig := 27
abbrev cc1_sem2_1 : DmaSem sig := 28
abbrev cc1_sem3_0 : DmaSem sig := 29
abbrev cc1_sem3_1 : DmaSem sig := 30
abbrev cc1_sem4_0 : DmaSem sig := 31
abbrev cc1_sem4_1 : DmaSem sig := 32
abbrev cc1_sem5_0 : DmaSem sig := 33
abbrev cc1_sem5_1 : DmaSem sig := 34
abbrev cc1_sem6_0 : DmaSem sig := 35
abbrev cc1_sem7_0 : DmaSem sig := 36
abbrev cc1_sem8_0 : DmaSem sig := 37
abbrev cc1_sem8_1 : DmaSem sig := 38
abbrev cc1_sem9_0 : DmaSem sig := 39
abbrev cc1_sem9_1 : DmaSem sig := 40

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2560x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2560x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2560x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2560x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2560x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S2560x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2560x16 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S8x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2000x3 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]
-- ==== ReferenceIdeal.lean ====
abbrev S10000x128 : Shape := ⟨2, ![10000, 128]⟩
abbrev S10000x3 : Shape := ⟨2, ![10000, 3]⟩
abbrev S2x320000 : Shape := ⟨2, ![2, 320000]⟩
abbrev S320000 : Shape := ⟨1, ![320000]⟩
abbrev S1x16 : Shape := ⟨2, ![1, 16]⟩
abbrev S16 : Shape := ⟨1, ![16]⟩
abbrev S16x16 : Shape := ⟨2, ![16, 16]⟩
abbrev S272x128 : Shape := ⟨2, ![272, 128]⟩
abbrev S128 : Shape := ⟨1, ![128]⟩
abbrev S128x128 : Shape := ⟨2, ![128, 128]⟩
abbrev S128x1 : Shape := ⟨2, ![128, 1]⟩
abbrev S1x320000 : Shape := ⟨2, ![1, 320000]⟩
abbrev S320000x1 : Shape := ⟨2, ![320000, 1]⟩
abbrev S320000x16 : Shape := ⟨2, ![320000, 16]⟩
abbrev S_ : Shape := ⟨0, ![]⟩
abbrev S1 : Shape := ⟨1, ![1]⟩
abbrev S1x1 : Shape := ⟨2, ![1, 1]⟩
abbrev S320000x128 : Shape := ⟨2, ![320000, 128]⟩
abbrev S320000x272 : Shape := ⟨2, ![320000, 272]⟩
abbrev S1x128 : Shape := ⟨2, ![1, 128]⟩
abbrev S320000x3 : Shape := ⟨2, ![320000, 3]⟩

abbrev nBuf : Space → Nat
  | .hbm => 184
  | .vmem => 0
  | .smem => 0
  | _ => 0

abbrev hbmTy0_0 (i : Nat) : BufTy := match i % 128 with
  | 0 => ⟨S10000x128, .f32⟩
  | 1 => ⟨S10000x3, .f32⟩
  | 2 => ⟨S2x320000, .i32⟩
  | 3 => ⟨S320000, .f32⟩
  | 4 => ⟨S1x16, .f32⟩
  | 5 => ⟨S16, .f32⟩
  | 6 => ⟨S16x16, .f32⟩
  | 7 => ⟨S16, .f32⟩
  | 8 => ⟨S272x128, .f32⟩
  | 9 => ⟨S128, .f32⟩
  | 10 => ⟨S128x128, .f32⟩
  | 11 => ⟨S128, .f32⟩
  | 12 => ⟨S272x128, .f32⟩
  | 13 => ⟨S128, .f32⟩
  | 14 => ⟨S128x1, .f32⟩
  | 15 => ⟨S1x320000, .i32⟩
  | 16 => ⟨S320000, .i32⟩
  | 17 => ⟨S1x320000, .i32⟩
  | 18 => ⟨S320000, .i32⟩
  | 19 => ⟨S320000x1, .f32⟩
  | 20 => ⟨S320000x16, .f32⟩
  | 21 => ⟨S1x16, .f32⟩
  | 22 => ⟨S320000x16, .f32⟩
  | 23 => ⟨S320000x16, .f32⟩
  | 24 => ⟨S320000x16, .f32⟩
  | 25 => ⟨S320000x16, .f32⟩
  | 26 => ⟨S_, .f32⟩
  | 27 => ⟨S320000x16, .f32⟩
  | 28 => ⟨S320000x16, .f32⟩
  | 29 => ⟨S_, .f32⟩
  | 30 => ⟨S320000x16, .f32⟩
  | 31 => ⟨S320000x16, .f32⟩
  | 32 => ⟨S320000x16, .f32⟩
  | 33 => ⟨S320000x16, .f32⟩
  | 34 => ⟨S1x16, .f32⟩
  | 35 => ⟨S320000x16, .f32⟩
  | 36 => ⟨S320000x16, .f32⟩
  | 37 => ⟨S_, .i32⟩
  | 38 => ⟨S320000, .i32⟩
  | 39 => ⟨S320000, .i1⟩
  | 40 => ⟨S_, .i32⟩
  | 41 => ⟨S320000, .i32⟩
  | 42 => ⟨S320000, .i32⟩
  | 43 => ⟨S320000, .i32⟩
  | 44 => ⟨S320000x1, .i32⟩
  | 45 => ⟨S1, .i32⟩
  | 46 => ⟨S_, .i32⟩
  | 47 => ⟨S320000x1, .i32⟩
  | 48 => ⟨S320000x1, .i1⟩
  | 49 => ⟨S1x1, .i32⟩
  | 50 => ⟨S320000x1, .i32⟩
  | 51 => ⟨S320000x1, .i1⟩
  | 52 => ⟨S320000x1, .i1⟩
  | 53 => ⟨S_, .i1⟩
  | 54 => ⟨S320000, .i1⟩
  | 55 => ⟨S320000x128, .f32⟩
  | 56 => ⟨S320000x128, .i1⟩
  | 57 => ⟨S_, .f32⟩
  | 58 => ⟨S320000x128, .f32⟩
  | 59 => ⟨S320000x128, .f32⟩
  | 60 => ⟨S_, .i32⟩
  | 61 => ⟨S320000, .i32⟩
  | 62 => ⟨S320000, .i1⟩
  | 63 => ⟨S_, .i32⟩
  | 64 => ⟨S320000, .i32⟩
  | 65 => ⟨S320000, .i32⟩
  | 66 => ⟨S320000, .i32⟩
  | 67 => ⟨S320000x1, .i32⟩
  | 68 => ⟨S1, .i32⟩
  | 69 => ⟨S_, .i32⟩
  | 70 => ⟨S320000x1, .i32⟩
  | 71 => ⟨S320000x1, .i1⟩
  | 72 => ⟨S1x1, .i32⟩
  | 73 => ⟨S320000x1, .i32⟩
  | 74 => ⟨S320000x1, .i1⟩
  | 75 => ⟨S320000x1, .i1⟩
  | 76 => ⟨S_, .i1⟩
  | 77 => ⟨S320000, .i1⟩
  | 78 => ⟨S320000x128, .f32⟩
  | 79 => ⟨S320000x128, .i1⟩
  | 80 => ⟨S_, .f32⟩
  | 81 => ⟨S320000x128, .f32⟩
  | 82 => ⟨S320000x128, .f32⟩
  | 83 => ⟨S320000x272, .f32⟩
  | 84 => ⟨S320000x128, .f32⟩
  | 85 => ⟨S1x128, .f32⟩
  | 86 => ⟨S320000x128, .f32⟩
  | 87 => ⟨S320000x128, .f32⟩
  | 88 => ⟨S320000x128, .f32⟩
  | 89 => ⟨S320000x128, .f32⟩
  | 90 => ⟨S_, .f32⟩
  | 91 => ⟨S320000x128, .f32⟩
  | 92 => ⟨S320000x128, .f32⟩
  | 93 => ⟨S_, .f32⟩
  | 94 => ⟨S320000x128, .f32⟩
  | 95 => ⟨S320000x128, .f32⟩
  | 96 => ⟨S320000x128, .f32⟩
  | 97 => ⟨S320000x128, .f32⟩
  | 98 => ⟨S1x128, .f32⟩
  | 99 => ⟨S320000x128, .f32⟩
  | 100 => ⟨S320000x128, .f32⟩
  | 101 => ⟨S_, .f32⟩
  | 102 => ⟨S10000x128, .f32⟩
  | 103 => ⟨S320000x1, .i32⟩
  | 104 => ⟨S10000x128, .f32⟩
  | 105 => ⟨S320000x128, .f32⟩
  | 106 => ⟨S1x128, .f32⟩
  | 107 => ⟨S320000x128, .f32⟩
  | 108 => ⟨S320000x128, .f32⟩
  | 109 => ⟨S320000x128, .f32⟩
  | 110 => ⟨S320000x128, .f32⟩
  | 111 => ⟨S_, .f32⟩
  | 112 => ⟨S320000x128, .f32⟩
  | 113 => ⟨S320000x128, .f32⟩
  | 114 => ⟨S_, .f32⟩
  | 115 => ⟨S320000x128, .f32⟩
  | 116 => ⟨S320000x128, .f32⟩
  | 117 => ⟨S320000x128, .f32⟩
  | 118 => ⟨S320000x1, .f32⟩
  | 119 => ⟨S_, .i32⟩
  | 120 => ⟨S320000, .i32⟩
  | 121 => ⟨S320000, .i1⟩
  | 122 => ⟨S_, .i32⟩
  | 123 => ⟨S320000, .i32⟩
  | 124 => ⟨S320000, .i32⟩
  | 125 => ⟨S320000, .i32⟩
  | 126 => ⟨S320000x1, .i32⟩
  | 127 => ⟨S1, .i32⟩
  | _ => ⟨S10000x128, .f32⟩

abbrev hbmTy0_1 (i : Nat) : BufTy := match i % 128 with
  | 0 => ⟨S_, .i32⟩
  | 1 => ⟨S320000x1, .i32⟩
  | 2 => ⟨S320000x1, .i1⟩
  | 3 => ⟨S1x1, .i32⟩
  | 4 => ⟨S320000x1, .i32⟩
  | 5 => ⟨S320000x1, .i1⟩
  | 6 => ⟨S320000x1, .i1⟩
  | 7 => ⟨S_, .i1⟩
  | 8 => ⟨S320000, .i1⟩
  | 9 => ⟨S320000x3, .f32⟩
  | 10 => ⟨S320000x3, .i1⟩
  | 11 => ⟨S_, .f32⟩
  | 12 => ⟨S320000x3, .f32⟩
  | 13 => ⟨S320000x3, .f32⟩
  | 14 => ⟨S_, .i32⟩
  | 15 => ⟨S320000, .i32⟩
  | 16 => ⟨S320000, .i1⟩
  | 17 => ⟨S_, .i32⟩
  | 18 => ⟨S320000, .i32⟩
  | 19 => ⟨S320000, .i32⟩
  | 20 => ⟨S320000, .i32⟩
  | 21 => ⟨S320000x1, .i32⟩
  | 22 => ⟨S1, .i32⟩
  | 23 => ⟨S_, .i32⟩
  | 24 => ⟨S320000x1, .i32⟩
  | 25 => ⟨S320000x1, .i1⟩
  | 26 => ⟨S1x1, .i32⟩
  | 27 => ⟨S320000x1, .i32⟩
  | 28 => ⟨S320000x1, .i1⟩
  | 29 => ⟨S320000x1, .i1⟩
  | 30 => ⟨S_, .i1⟩
  | 31 => ⟨S320000, .i1⟩
  | 32 => ⟨S320000x3, .f32⟩
  | 33 => ⟨S320000x3, .i1⟩
  | 34 => ⟨S_, .f32⟩
  | 35 => ⟨S320000x3, .f32⟩
  | 36 => ⟨S320000x3, .f32⟩
  | 37 => ⟨S320000x3, .f32⟩
  | 38 => ⟨S320000x3, .f32⟩
  | 39 => ⟨S_, .f32⟩
  | 40 => ⟨S320000, .f32⟩
  | 41 => ⟨S320000x1, .f32⟩
  | 42 => ⟨S320000x1, .f32⟩
  | 43 => ⟨S_, .f32⟩
  | 44 => ⟨S320000x1, .f32⟩
  | 45 => ⟨S320000x1, .f32⟩
  | 46 => ⟨S320000x3, .f32⟩
  | 47 => ⟨S320000x3, .f32⟩
  | 48 => ⟨S320000x3, .f32⟩
  | 49 => ⟨S320000x3, .f32⟩
  | 50 => ⟨S_, .f32⟩
  | 51 => ⟨S10000x3, .f32⟩
  | 52 => ⟨S320000x1, .i32⟩
  | 53 => ⟨S10000x3, .f32⟩
  | 54 => ⟨S10000x128, .f32⟩
  | 55 => ⟨S10000x3, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v14 : Ref sig .tc := ⟨.hbm, 59, rfl⟩
abbrev main_call2_c : Ref sig .tc := ⟨.hbm, 60, rfl⟩
abbrev main_call2_v0 : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_c_1 : Ref sig .tc := ⟨.hbm, 68, rfl⟩
abbrev main_call2_c_2 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_3 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_call2_cst : Ref sig .tc := ⟨.hbm, 80, rfl⟩
abbrev main_call2_v15 : Ref sig .tc := ⟨.hbm, 81, rfl⟩
abbrev main_v15 : Ref sig .tc := ⟨.hbm, 82, rfl⟩
abbrev main_v16 : Ref sig .tc := ⟨.hbm, 83, rfl⟩
abbrev main_v17 : Ref sig .tc := ⟨.hbm, 84, rfl⟩
abbrev main_v18 : Ref sig .tc := ⟨.hbm, 85, rfl⟩
abbrev main_v19 : Ref sig .tc := ⟨.hbm, 86, rfl⟩
abbrev main_v20 : Ref sig .tc := ⟨.hbm, 87, rfl⟩
abbrev main_call3_v0 : Ref sig .tc := ⟨.hbm, 88, rfl⟩
abbrev main_call3_v1 : Ref sig .tc := ⟨.hbm, 89, rfl⟩
abbrev main_call3_cst : Ref sig .tc := ⟨.hbm, 90, rfl⟩
abbrev main_call3_v2 : Ref sig .tc := ⟨.hbm, 91, rfl⟩
abbrev main_call3_v3 : Ref sig .tc := ⟨.hbm, 92, rfl⟩
abbrev main_call3_cst_0 : Ref sig .tc := ⟨.hbm, 93, rfl⟩
abbrev main_call3_v4 : Ref sig .tc := ⟨.hbm, 94, rfl⟩
abbrev main_call3_v5 : Ref sig .tc := ⟨.hbm, 95, rfl⟩
abbrev main_v21 : Ref sig .tc := ⟨.hbm, 96, rfl⟩
abbrev main_v22 : Ref sig .tc := ⟨.hbm, 97, rfl⟩
abbrev main_v23 : Ref sig .tc := ⟨.hbm, 98, rfl⟩
abbrev main_v24 : Ref sig .tc := ⟨.hbm, 99, rfl⟩
abbrev main_v25 : Ref sig .tc := ⟨.hbm, 100, rfl⟩
abbrev main_cst : Ref sig .tc := ⟨.hbm, 101, rfl⟩
abbrev main_v26 : Ref sig .tc := ⟨.hbm, 102, rfl⟩
abbrev main_v27 : Ref sig .tc := ⟨.hbm, 103, rfl⟩
abbrev main_v28 : Ref sig .tc := ⟨.hbm, 104, rfl⟩
abbrev main_v29 : Ref sig .tc := ⟨.hbm, 105, rfl⟩
abbrev main_v30 : Ref sig .tc := ⟨.hbm, 106, rfl⟩
abbrev main_v31 : Ref sig .tc := ⟨.hbm, 107, rfl⟩
abbrev main_v32 : Ref sig .tc := ⟨.hbm, 108, rfl⟩
abbrev main_call4_v0 : Ref sig .tc := ⟨.hbm, 109, rfl⟩
abbrev main_call4_v1 : Ref sig .tc := ⟨.hbm, 110, rfl⟩
abbrev main_call4_cst : Ref sig .tc := ⟨.hbm, 111, rfl⟩
abbrev main_call4_v2 : Ref sig .tc := ⟨.hbm, 112, rfl⟩
abbrev main_call4_v3 : Ref sig .tc := ⟨.hbm, 113, rfl⟩
abbrev main_call4_cst_0 : Ref sig .tc := ⟨.hbm, 114, rfl⟩
abbrev main_call4_v4 : Ref sig .tc := ⟨.hbm, 115, rfl⟩
abbrev main_call4_v5 : Ref sig .tc := ⟨.hbm, 116, rfl⟩
abbrev main_v33 : Ref sig .tc := ⟨.hbm, 117, rfl⟩
abbrev main_v34 : Ref sig .tc := ⟨.hbm, 118, rfl⟩
abbrev main_call5_c : Ref sig .tc := ⟨.hbm, 119, rfl⟩
abbrev main_call5_v0 : Ref sig .tc := ⟨.hbm, 120, rfl⟩
abbrev main_call5_v1 : Ref sig .tc := ⟨.hbm, 121, rfl⟩
abbrev main_call5_c_0 : Ref sig .tc := ⟨.hbm, 122, rfl⟩
abbrev main_call5_v2 : Ref sig .tc := ⟨.hbm, 123, rfl⟩
abbrev main_call5_v3 : Ref sig .tc := ⟨.hbm, 124, rfl⟩
abbrev main_call5_v4 : Ref sig .tc := ⟨.hbm, 125, rfl⟩
abbrev main_call5_v5 : Ref sig .tc := ⟨.hbm, 126, rfl⟩
abbrev main_call5_c_1 : Ref sig .tc := ⟨.hbm, 127, rfl⟩
abbrev main_call5_c_2 : Ref sig .tc := ⟨.hbm, 128, rfl⟩
abbrev main_call5_v6 : Ref sig .tc := ⟨.hbm, 129, rfl⟩
abbrev main_call5_v7 : Ref sig .tc := ⟨.hbm, 130, rfl⟩
abbrev main_call5_v8 : Ref sig .tc := ⟨.hbm, 131, rfl⟩
abbrev main_call5_v9 : Ref sig .tc := ⟨.hbm, 132, rfl⟩
abbrev main_call5_v10 : Ref sig .tc := ⟨.hbm, 133, rfl⟩
abbrev main_call5_v11 : Ref sig .tc := ⟨.hbm, 134, rfl⟩
abbrev main_call5_c_3 : Ref sig .tc := ⟨.hbm, 135, rfl⟩
abbrev main_call5_v12 : Ref sig .tc := ⟨.hbm, 136, rfl⟩
abbrev main_call5_v13 : Ref sig .tc := ⟨.hbm, 137, rfl⟩
abbrev main_call5_v14 : Ref sig .tc := ⟨.hbm, 138, rfl⟩
abbrev main_call5_cst : Ref sig .tc := ⟨.hbm, 139, rfl⟩
abbrev main_call5_v15 : Ref sig .tc := ⟨.hbm, 140, rfl⟩
abbrev main_v35 : Ref sig .tc := ⟨.hbm, 141, rfl⟩
abbrev main_call6_c : Ref sig .tc := ⟨.hbm, 142, rfl⟩
abbrev main_call6_v0 : Ref sig .tc := ⟨.hbm, 143, rfl⟩
abbrev main_call6_v1 : Ref sig .tc := ⟨.hbm, 144, rfl⟩
abbrev main_call6_c_0 : Ref sig .tc := ⟨.hbm, 145, rfl⟩
abbrev main_call6_v2 : Ref sig .tc := ⟨.hbm, 146, rfl⟩
abbrev main_call6_v3 : Ref sig .tc := ⟨.hbm, 147, rfl⟩
abbrev main_call6_v4 : Ref sig .tc := ⟨.hbm, 148, rfl⟩
abbrev main_call6_v5 : Ref sig .tc := ⟨.hbm, 149, rfl⟩
abbrev main_call6_c_1 : Ref sig .tc := ⟨.hbm, 150, rfl⟩
abbrev main_call6_c_2 : Ref sig .tc := ⟨.hbm, 151, rfl⟩
abbrev main_call6_v6 : Ref sig .tc := ⟨.hbm, 152, rfl⟩
abbrev main_call6_v7 : Ref sig .tc := ⟨.hbm, 153, rfl⟩
abbrev main_call6_v8 : Ref sig .tc := ⟨.hbm, 154, rfl⟩
abbrev main_call6_v9 : Ref sig .tc := ⟨.hbm, 155, rfl⟩
abbrev main_call6_v10 : Ref sig .tc := ⟨.hbm, 156, rfl⟩
abbrev main_call6_v11 : Ref sig .tc := ⟨.hbm, 157, rfl⟩
abbrev main_call6_c_3 : Ref sig .tc := ⟨.hbm, 158, rfl⟩
abbrev main_call6_v12 : Ref sig .tc := ⟨.hbm, 159, rfl⟩
abbrev main_call6_v13 : Ref sig .tc := ⟨.hbm, 160, rfl⟩
abbrev main_call6_v14 : Ref sig .tc := ⟨.hbm, 161, rfl⟩
abbrev main_call6_cst : Ref sig .tc := ⟨.hbm, 162, rfl⟩
abbrev main_call6_v15 : Ref sig .tc := ⟨.hbm, 163, rfl⟩
abbrev main_v36 : Ref sig .tc := ⟨.hbm, 164, rfl⟩
abbrev main_v37 : Ref sig .tc := ⟨.hbm, 165, rfl⟩
abbrev main_call7_v0 : Ref sig .tc := ⟨.hbm, 166, rfl⟩
abbrev main_call7_cst : Ref sig .tc := ⟨.hbm, 167, rfl⟩
abbrev main_call7_v1 : Ref sig .tc := ⟨.hbm, 168, rfl⟩
abbrev main_call7_v2 : Ref sig .tc := ⟨.hbm, 169, rfl⟩
abbrev main_v38 : Ref sig .tc := ⟨.hbm, 170, rfl⟩
abbrev main_cst_0 : Ref sig .tc := ⟨.hbm, 171, rfl⟩
abbrev main_v39 : Ref sig .tc := ⟨.hbm, 172, rfl⟩
abbrev main_v40 : Ref sig .tc := ⟨.hbm, 173, rfl⟩
abbrev main_v41 : Ref sig .tc := ⟨.hbm, 174, rfl⟩
abbrev main_v42 : Ref sig .tc := ⟨.hbm, 175, rfl⟩
abbrev main_v43 : Ref sig .tc := ⟨.hbm, 176, rfl⟩
abbrev main_v44 : Ref sig .tc := ⟨.hbm, 177, rfl⟩
abbrev main_cst_1 : Ref sig .tc := ⟨.hbm, 178, rfl⟩
abbrev main_v45 : Ref sig .tc := ⟨.hbm, 179, rfl⟩
abbrev main_v46 : Ref sig .tc := ⟨.hbm, 180, rfl⟩
abbrev main_v47 : Ref sig .tc := ⟨.hbm, 181, rfl⟩
abbrev main_v48 : Ref sig .tc := ⟨.hbm, 182, rfl⟩
abbrev main_v49 : Ref sig .tc := ⟨.hbm, 183, rfl⟩

abbrev nD : Nat := 1
abbrev τ : Topo := Topo.v7x

variable {F : FTy → Type} [FloatOps F]
-- ==== Proof.Run.lean ====
/- The run of the idealized kernel with every buffer read off at its end: `Gen.frame`'s launch with a stronger final
   reading, so that the two result arrays are known as well as the arguments. -/
module

public import proofs.«01_k».proof.Proof.Gen.KernelIdeal.Frame

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the kernel's program ends, every semaphore at zero, and every buffer that outlives the launch
    holds what the fold of the program's segments leaves in it (`W20`). -/
theorem run : θ_run defs (onTc (τ := τ) (main (F := F))) ⟨m, fun _ => 0, ρ⟩ (fun r =>
    (∀ c : Dev nD, ∀ b ∈ Pipeline.ucRefs τ sig, r.2.mem (((c : Thread nD τ)).1, b) = W20 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h hz => ⟨h, funext fun g => hz g (.inr (no_unscoped g.2))⟩)

end Cert.KernelIdeal.Own

end
-- ==== Proof.Host.lean ====
module

public import proofs.«01_k».proof.Proof.Gen.KernelIdeal.Frame
public import proofs.«01_k».proof.Proof.Gen.ReferenceIdeal.Read
public import Idealize.ShloMosaic.Lib.Pipeline.ValueKit
public import Idealize.ShloMosaic.Lib.Claim

/-! What the host operations before the first region leave in the buffers that region reads: the weights cut into
    row slices and laid side by side, the biases padded to eight rows, the coordinates padded to sixteen columns,
    and the four gathers. Each is read at an index and given by the argument arrays. -/

@[expose] public section
set_option maxRecDepth 16384
noncomputable section
open Idealize.ShloMosaic Idealize.ShloMosaic.TcCoe Idealize.SL.Sem
namespace Cert.KernelIdeal.Own
open Cert.KernelIdeal Cert.KernelIdeal.Gen
variable (m : (ℓ : Loc nD τ sig) → Buf (Elt Ideal) ℓ) (ρ : Dev nD → PrngReg)

/-- Argument 0 of the kernel, `h`, as the launch memory holds it. -/
abbrev a_h (c : Dev nD) : FVec Ideal S10000x128 .f32 := m ((c.tc : Thread nD τ).loc main_arg0)
/-- Argument 1 of the kernel, `x`, as the launch memory holds it. -/
abbrev a_x (c : Dev nD) : FVec Ideal S10000x3 .f32 := m ((c.tc : Thread nD τ).loc main_arg1)
/-- Argument 2 of the kernel, `ei`, as the launch memory holds it. -/
abbrev a_ei (c : Dev nD) : IVec S2x320000 32 := m ((c.tc : Thread nD τ).loc main_arg2)
/-- Argument 3 of the kernel, `dij`, as the launch memory holds it. -/
abbrev a_dij (c : Dev nD) : FVec Ideal S320000 .f32 := m ((c.tc : Thread nD τ).loc main_arg3)
/-- Argument 4 of the kernel, `We1`, as the launch memory holds it. -/
abbrev a_We1 (c : Dev nD) : FVec Ideal S1x16 .f32 := m ((c.tc : Thread nD τ).loc main_arg4)
/-- Argument 5 of the kernel, `be1`, as the launch memory holds it. -/
abbrev a_be1 (c : Dev nD) : FVec Ideal S16 .f32 := m ((c.tc : Thread nD τ).loc main_arg5)
/-- Argument 6 of the kernel, `We2`, as the launch memory holds it. -/
abbrev a_We2 (c : Dev nD) : FVec Ideal S16x16 .f32 := m ((c.tc : Thread nD τ).loc main_arg6)
/-- Argument 7 of the kernel, `be2`, as the launch memory holds it. -/
abbrev a_be2 (c : Dev nD) : FVec Ideal S16 .f32 := m ((c.tc : Thread nD τ).loc main_arg7)
/-- Argument 8 of the kernel, `Wn1`, as the launch memory holds it. -/
abbrev a_Wn1 (c : Dev nD) : FVec Ideal S272x128 .f32 := m ((c.tc : Thread nD τ).loc main_arg8)
/-- Argument 9 of the kernel, `bn1`, as the launch memory holds it. -/
abbrev a_bn1 (c : Dev nD) : FVec Ideal S128 .f32 := m ((c.tc : Thread nD τ).loc main_arg9)
/-- Argument 10 of the kernel, `Wn2`, as the launch memory holds it. -/
abbrev a_Wn2 (c : Dev nD) : FVec Ideal S128x128 .f32 := m ((c.tc : Thread nD τ).loc main_arg10)
/-- Argument 11 of the kernel, `bn2`, as the launch memory holds it. -/
abbrev a_bn2 (c : Dev nD) : FVec Ideal S128 .f32 := m ((c.tc : Thread nD τ).loc main_arg11)
/-- Argument 12 of the kernel, `Wc1`, as the launch memory holds it. -/
abbrev a_Wc1 (c : Dev nD) : FVec Ideal S272x128 .f32 := m ((c.tc : Thread nD τ).loc main_arg12)
/-- Argument 13 of the kernel, `bc1`, as the launch memory holds it. -/
abbrev a_bc1 (c : Dev nD) : FVec Ideal S128 .f32 := m ((c.tc : Thread nD τ).loc main_arg13)
/-- Argument 14 of the kernel, `Wc2`, as the launch memory holds it. -/
abbrev a_Wc2 (c : Dev nD) : FVec Ideal S128x1 .f32 := m ((c.tc : Thread nD τ).loc main_arg14)
/-- The slice of the two first-layer weights that starts at row 0, the node weight in columns 0 to 127 and the coordinate weight in columns 128 to 255. -/
theorem w1s_at (c : Dev nD) (a : Fin 128) (k : Fin 256) : (V17 m ρ c main_v6 : FVec Ideal S128x256 .f32) (ix2 a k : S128x256.Idx) = if h : (k : ℕ) < 128 then a_Wn1 m c (ix2 (⟨0 + a, by omega⟩ : Fin 272) (⟨k, h⟩ : Fin 128))
      else a_Wc1 m c (ix2 (⟨0 + a, by omega⟩ : Fin 272) (⟨k - 128, by omega⟩ : Fin 128)) := by
  show (W17 m ρ c (Proc.devRef .tc main_v6) : FVec Ideal S128x256 .f32) (ix2 a k : S128x256.Idx) = _
  rw [W17_of m ρ c main_v6 (by decide), W16_of m ρ c main_v6 (by decide), W15_of m ρ c main_v6 (by decide), W14_of m ρ c main_v6 (by decide), W13_of m ρ c main_v6 (by decide), W12_of m ρ c main_v6 (by decide), W11_of m ρ c main_v6 (by decide), W10_of m ρ c main_v6 (by decide), W9_of m ρ c main_v6 (by decide), W8_of m ρ c main_v6 (by decide), W7_of m ρ c main_v6 (by decide), W6_of m ρ c main_v6 (by decide), W5_of m ρ c main_v6 (by decide), W4_of m ρ c main_v6 (by decide), W3_of m ρ c main_v6 (by decide), W2_of m ρ c main_v6 (by decide)]
  show (StableHlo.after hostOps0 (W0 m ρ c) (Proc.devRef .tc main_v6) : FVec Ideal S128x256 .f32) (ix2 a k : S128x256.Idx) = _
  entry_read
  pointwise

/-- The slice of the two first-layer weights that starts at row 128, the node weight in columns 0 to 127 and the coordinate weight in columns 128 to 255. -/
theorem w1d_at (c : Dev nD) (a : Fin 128) (k : Fin 256) : (V17 m ρ c main_v9 : FVec Ideal S128x256 .f32) (ix2 a k : S128x256.Idx) = if h : (k : ℕ) < 128 then a_Wn1 m c (ix2 (⟨128 + a, by omega⟩ : Fin 272) (⟨k, h⟩ : Fin 128))
      else a_Wc1 m c (ix2 (⟨128 + a, by omega⟩ : Fin 272) (⟨k - 128, by omega⟩ : Fin 128)) := by
  show (W17 m ρ c (Proc.devRef .tc main_v9) : FVec Ideal S128x256 .f32) (ix2 a k : S128x256.Idx) = _
  rw [W17_of m ρ c main_v9 (by decide), W16_of m ρ c main_v9 (by decide), W15_of m ρ c main_v9 (by decide), W14_of m ρ c main_v9 (by decide), W13_of m ρ c main_v9 (by decide), W12_of m ρ c main_v9 (by decide), W11_of m ρ c main_v9 (by decide), W10_of m ρ c main_v9 (by decide), W9_of m ρ c main_v9 (by decide), W8_of m ρ c main_v9 (by decide), W7_of m ρ c main_v9 (by decide), W6_of m ρ c main_v9 (by decide), W5_of m ρ c main_v9 (by decide), W4_of m ρ c main_v9 (by decide), W3_of m ρ c main_v9 (by decide), W2_of m ρ c main_v9 (by decide)]
  show (StableHlo.after hostOps0 (W0 m ρ c) (Proc.devRef .tc main_v9) : FVec Ideal S128x256 .f32) (ix2 a k : S128x256.Idx) = _
  entry_read
  pointwise

/-- The slice of the two first-layer weights that starts at row 256, the node weight in columns 0 to 127 and the coordinate weight in columns 128 to 255. -/
theorem w1e_at (c : Dev nD) (a : Fin 16) (k : Fin 256) : (V17 m ρ c main_v12 : FVec Ideal S16x256 .f32) (ix2 a k : S16x256.Idx) = if h : (k : ℕ) < 128 then a_Wn1 m c (ix2 (⟨256 + a, by omega⟩ : Fin 272) (⟨k, h⟩ : Fin 128))
      else a_Wc1 m c (ix2 (⟨256 + a, by omega⟩ : Fin 272) (⟨k - 128, by omega⟩ : Fin 128)) := by
  show (W17 m ρ c (Proc.devRef .tc main_v12) : FVec Ideal S16x256 .f32) (ix2 a k : S16x256.Idx) = _
  rw [W17_of m ρ c main_v12 (by decide), W16_of m ρ c main_v12 (by decide), W15_of m ρ c main_v12 (by decide), W14_of m ρ c main_v12 (by decide), W13_of m ρ c main_v12 (by decide), W12_of m ρ c main_v12 (by decide), W11_of m ρ c main_v12 (by decide), W10_of m ρ c main_v12 (by decide), W9_of m ρ c main_v12 (by decide), W8_of m ρ c main_v12 (by decide), W7_of m ρ c main_v12 (by decide), W6_of m ρ c main_v12 (by decide), W5_of m ρ c main_v12 (by decide), W4_of m ρ c main_v12 (by decide), W3_of m ρ c main_v12 (by decide), W2_of m ρ c main_v12 (by decide)]
  show (StableHlo.after hostOps0 (W0 m ρ c) (Proc.devRef .tc main_v12) : FVec Ideal S16x256 .f32) (ix2 a k : S16x256.Idx) = _
  entry_read
  pointwise

/-- The joined first-layer bias, in row 0 of its padded buffer. -/
theorem b1_at (c : Dev nD) (k : Fin 256) : (V17 m ρ c main_v15 : FVec Ideal S8x256 .f32) (ix2 0 k : S8x256.Idx) = if h : (k : ℕ) < 128 then a_bn1 m c (ix1 (⟨k, h⟩ : Fin 128)) else a_bc1 m c (ix1 (⟨k - 128, by omega⟩ : Fin 128)) := by
  show (W17 m ρ c (Proc.devRef .tc main_v15) : FVec Ideal S8x256 .f32) (ix2 0 k : S8x256.Idx) = _
  rw [W17_of m ρ c main_v15 (by decide), W16_of m ρ c main_v15 (by decide), W15_of m ρ c main_v15 (by decide), W14_of m ρ c main_v15 (by decide), W13_of m ρ c main_v15 (by decide), W12_of m ρ c main_v15 (by decide), W11_of m ρ c main_v15 (by decide), W10_of m ρ c main_v15 (by decide), W9_of m ρ c main_v15 (by decide), W8_of m ρ c main_v15 (by decide), W7_of m ρ c main_v15 (by decide), W6_of m ρ c main_v15 (by decide), W5_of m ρ c main_v15 (by decide), W4_of m ρ c main_v15 (by decide), W3_of m ρ c main_v15 (by decide)]
  show (StableHlo.after hostOps0_1 (W1 m ρ c) (Proc.devRef .tc main_v15) : FVec Ideal S8x256 .f32) (ix2 0 k : S8x256.Idx) = _
  entry_read
  show (pad S8x256 ![0, 0] ![7, 0] ![0, 0] (broadcastInDim S1x256 ![1] bcast_S256_S1x256_1 (concatenate S256 0 [⟨S128, a_bn1 m c⟩, ⟨S128, a_bc1 m c⟩] concatenates_S128_S128_S256_d0)) (sitofp .f32 (constantI S_ 32 0#32)) pads_S1x256_S8x256_070_000 h_S_ : FVec Ideal S8x256 .f32) (ix2 0 k) = _
  pointwise

/-- Row 0 of the padded buffer of `we1`. -/
theorem we1_at (c : Dev nD) (k : Fin 16) : (V17 m ρ c main_v16 : FVec Ideal S8x16 .f32) (ix2 0 k : S8x16.Idx) = a_We1 m c (ix2 0 k) := by
  show (W17 m ρ c (Proc.devRef .tc main_v16) : FVec Ideal S8x16 .f32) (ix2 0 k : S8x16.Idx) = _
  rw [W17_of m ρ c main_v16 (by decide), W16_of m ρ c main_v16 (by decide), W15_of m ρ c main_v16 (by decide), W14_of m ρ c main_v16 (by decide), W13_of m ρ c main_v16 (by decide), W12_of m ρ c main_v16 (by decide), W11_of m ρ c main_v16 (by decide), W10_of m ρ c main_v16 (by decide), W9_of m ρ c main_v16 (by decide), W8_of m ρ c main_v16 (by decide), W7_of m ρ c main_v16 (by decide), W6_of m ρ c main_v16 (by decide), W5_of m ρ c main_v16 (by decide)]
  show (StableHlo.after hostOps0_3 (W3 m ρ c) (Proc.devRef .tc main_v16) : FVec Ideal S8x16 .f32) (ix2 0 k : S8x16.Idx) = _
  entry_read
  show (pad S8x16 ![0, 0] ![7, 0] ![0, 0] (a_We1 m c) (sitofp .f32 (constantI S_ 32 0#32)) pads_S1x16_S8x16_070_000 h_S_ : FVec Ideal S8x16 .f32) (ix2 0 k) = _
  pointwise

/-- Row 0 of the padded buffer of `be1`. -/
theorem be1_at (c : Dev nD) (k : Fin 16) : (V17 m ρ c main_v18 : FVec Ideal S8x16 .f32) (ix2 0 k : S8x16.Idx) = a_be1 m c (ix1 k) := by
  show (W17 m ρ c (Proc.devRef .tc main_v18) : FVec Ideal S8x16 .f32) (ix2 0 k : S8x16.Idx) = _
  rw [W17_of m ρ c main_v18 (by decide), W16_of m ρ c main_v18 (by decide), W15_of m ρ c main_v18 (by decide), W14_of m ρ c main_v18 (by decide), W13_of m ρ c main_v18 (by decide), W12_of m ρ c main_v18 (by decide), W11_of m ρ c main_v18 (by decide), W10_of m ρ c main_v18 (by decide), W9_of m ρ c main_v18 (by decide), W8_of m ρ c main_v18 (by decide), W7_of m ρ c main_v18 (by decide)]
  show (StableHlo.after hostOps0_5 (W5 m ρ c) (Proc.devRef .tc main_v18) : FVec Ideal S8x16 .f32) (ix2 0 k : S8x16.Idx) = _
  entry_read
  show (pad S8x16 ![0, 0] ![7, 0] ![0, 0] (broadcastInDim S1x16 ![1] bcast_S16_S1x16_1 (a_be1 m c)) (sitofp .f32 (constantI S_ 32 0#32)) pads_S1x16_S8x16_070_000 h_S_ : FVec Ideal S8x16 .f32) (ix2 0 k) = _
  pointwise

/-- Row 0 of the padded buffer of `be2`. -/
theorem be2_at (c : Dev nD) (k : Fin 16) : (V17 m ρ c main_v20 : FVec Ideal S8x16 .f32) (ix2 0 k : S8x16.Idx) = a_be2 m c (ix1 k) := by
  show (W17 m ρ c (Proc.devRef .tc main_v20) : FVec Ideal S8x16 .f32) (ix2 0 k : S8x16.Idx) = _
  rw [W17_of m ρ c main_v20 (by decide), W16_of m ρ c main_v20 (by decide), W15_of m ρ c main_v20 (by decide), W14_of m ρ c main_v20 (by decide), W13_of m ρ c main_v20 (by decide), W12_of m ρ c main_v20 (by decide), W11_of m ρ c main_v20 (by decide), W10_of m ρ c main_v20 (by decide), W9_of m ρ c main_v20 (by decide)]
  show (StableHlo.after hostOps0_7 (W7 m ρ c) (Proc.devRef .tc main_v20) : FVec Ideal S8x16 .f32) (ix2 0 k : S8x16.Idx) = _
  entry_read
  show (pad S8x16 ![0, 0] ![7, 0] ![0, 0] (broadcastInDim S1x16 ![1] bcast_S16_S1x16_1 (a_be2 m c)) (sitofp .f32 (constantI S_ 32 0#32)) pads_S1x16_S8x16_070_000 h_S_ : FVec Ideal S8x16 .f32) (ix2 0 k) = _
  pointwise

/-- Row 0 of the padded buffer of `bn2`. -/
theorem bn2_at (c : Dev nD) (k : Fin 128) : (V17 m ρ c main_v22 : FVec Ideal S8x128 .f32) (ix2 0 k : S8x128.Idx) = a_bn2 m c (ix1 k) := by
  show (W17 m ρ c (Proc.devRef .tc main_v22) : FVec Ideal S8x128 .f32) (ix2 0 k : S8x128.Idx) = _
  rw [W17_of m ρ c main_v22 (by decide), W16_of m ρ c main_v22 (by decide), W15_of m ρ c main_v22 (by decide), W14_of m ρ c main_v22 (by decide), W13_of m ρ c main_v22 (by decide), W12_of m ρ c main_v22 (by decide), W11_of m ρ c main_v22 (by decide)]
  show (StableHlo.after hostOps0_9 (W9 m ρ c) (Proc.devRef .tc main_v22) : FVec Ideal S8x128 .f32) (ix2 0 k : S8x128.Idx) = _
  entry_read
  show (pad S8x128 ![0, 0] ![7, 0] ![0, 0] (broadcastInDim S1x128 ![1] bcast_S128_S1x128_1 (a_bn2 m c)) (sitofp .f32 (constantI S_ 32 0#32)) pads_S1x128_S8x128_070_000 h_S_ : FVec Ideal S8x128 .f32) (ix2 0 k) = _
  pointwise

/-- The edge distances as a column. -/
theorem dij_at (c : Dev nD) (e : Fin 320000) : (V17 m ρ c main_v28 : FVec Ideal S320000x1 .f32) (ix2 e 0 : S320000x1.Idx) = a_dij m c (ix1 e) := by
  show (W17 m ρ c (Proc.devRef .tc main_v28) : FVec Ideal S320000x1 .f32) (ix2 e 0 : S320000x1.Idx) = _
  skip
  show (StableHlo.after hostOps0_16 (W16 m ρ c) (Proc.devRef .tc main_v28) : FVec Ideal S320000x1 .f32) (ix2 e 0 : S320000x1.Idx) = _
  entry_read
  pointwise

/-- The coordinates padded with zero columns to sixteen. -/
def xpad (c : Dev nD) : FVec Ideal S10000x16 .f32 :=
  pad S10000x16 ![0, 0] ![0, 13] ![0, 0] (a_x m c) (sitofp .f32 (constantI S_ 32 0#32)) pads_S10000x3_S10000x16_000_0130 h_S_

/-- The padded coordinates hold `x` in columns 0 to 2 and zero in the rest. -/
theorem xpad_at (c : Dev nD) (b : Fin 10000) (k : Fin 16) :
    xpad m c (ix2 b k) = if h : (k : ℕ) < 3 then a_x m c (ix2 b (⟨k, h⟩ : Fin 3)) else 0 := by
  pointwise [xpad]
  rw [show FloatOps.sitofp (F := Ideal) FTy.f32 (0#32) = 0 from by simp [FloatOps.sitofp]]

/-- The gathered features of the source nodes are the reference's gather of the same rows. -/
theorem hs_eq (c : Dev nD) : V17 m ρ c main_v24 = Cert.ReferenceIdeal.Read.val_main_v14 (F := Ideal) (a_h m c) (a_ei m c) := by
  show W17 m ρ c (Proc.devRef .tc main_v24) = _
  rw [W17_of m ρ c main_v24 (by decide), W16_of m ρ c main_v24 (by decide), W15_of m ρ c main_v24 (by decide), W14_of m ρ c main_v24 (by decide)]
  show StableHlo.after hostOps0_12 (W12 m ρ c) (Proc.devRef .tc main_v24) = _
  entry_read
  simp only [StableHlo.TRef.ofBuf_toBuf]
  have hv : (StableHlo.TRef.of (T := ⟨S320000, .i32⟩) main_v1).ofBuf (fun i => shapeCast main_v1.ty.shape
      (extractStridedSlice S1x320000 ![0, 0] (W0 m ρ c (Proc.tc.devRef main_arg2)) slices_S2x320000_S1x320000_0_0)
      shapeCasts_S1x320000_S320000 i) = Cert.ReferenceIdeal.Read.val_main_v1 (F := Ideal) (a_ei m c) := rfl
  rw [hv]
  unfold Cert.ReferenceIdeal.Read.val_main_v14 Cert.ReferenceIdeal.Read.val_main_call1_v15 Cert.ReferenceIdeal.Read.val_main_call1_cst Cert.ReferenceIdeal.Read.val_main_call1_v14 Cert.ReferenceIdeal.Read.val_main_call1_v13 Cert.ReferenceIdeal.Read.val_main_call1_v12 Cert.ReferenceIdeal.Read.val_main_call1_c_3 Cert.ReferenceIdeal.Read.val_main_call1_v11 Cert.ReferenceIdeal.Read.val_main_call1_v10 Cert.ReferenceIdeal.Read.val_main_call1_v9 Cert.ReferenceIdeal.Read.val_main_call1_v8 Cert.ReferenceIdeal.Read.val_main_call1_v7 Cert.ReferenceIdeal.Read.val_main_call1_v6 Cert.ReferenceIdeal.Read.val_main_call1_c_2 Cert.ReferenceIdeal.Read.val_main_call1_c_1 Cert.ReferenceIdeal.Read.val_main_call1_v5 Cert.ReferenceIdeal.Read.val_main_call1_v4 Cert.ReferenceIdeal.Read.val_main_call1_v3 Cert.ReferenceIdeal.Read.val_main_call1_v2 Cert.ReferenceIdeal.Read.val_main_call1_c_0 Cert.ReferenceIdeal.Read.val_main_call1_v1 Cert.ReferenceIdeal.Read.val_main_call1_v0 Cert.ReferenceIdeal.Read.val_main_call1_c
  generalize Cert.ReferenceIdeal.Read.val_main_v1 (F := Ideal) (a_ei m c) = v
  have h0 : (StableHlo.TRef.of (T := ⟨S10000x128, .f32⟩) main_arg0).ofBuf (W0 m ρ c (Proc.tc.devRef main_arg0)) = a_h m c := rfl
  rw [h0]
  have h1 : ∀ X, (StableHlo.TRef.of (T := ⟨S320000x128, .f32⟩) main_v24).toBuf (Val := Elt Ideal) X = X := fun _ => rfl
  refine (h1 _).trans ?_
  rfl

/-- The gathered features of the target nodes are the reference's gather of the same rows. -/
theorem hd_eq (c : Dev nD) : V17 m ρ c main_v25 = Cert.ReferenceIdeal.Read.val_main_v15 (F := Ideal) (a_h m c) (a_ei m c) := by
  show W17 m ρ c (Proc.devRef .tc main_v25) = _
  rw [W17_of m ρ c main_v25 (by decide), W16_of m ρ c main_v25 (by decide), W15_of m ρ c main_v25 (by decide)]
  show StableHlo.after hostOps0_13 (W13 m ρ c) (Proc.devRef .tc main_v25) = _
  entry_read
  simp only [StableHlo.TRef.ofBuf_toBuf]
  have hv : (StableHlo.TRef.of (T := ⟨S320000, .i32⟩) main_v3).ofBuf (fun i => shapeCast main_v3.ty.shape
      (extractStridedSlice S1x320000 ![1, 0] (W0 m ρ c (Proc.tc.devRef main_arg2)) slices_S2x320000_S1x320000_1_0)
      shapeCasts_S1x320000_S320000 i) = Cert.ReferenceIdeal.Read.val_main_v3 (F := Ideal) (a_ei m c) := rfl
  rw [hv]
  unfold Cert.ReferenceIdeal.Read.val_main_v15 Cert.ReferenceIdeal.Read.val_main_call2_v15 Cert.ReferenceIdeal.Read.val_main_call2_cst Cert.ReferenceIdeal.Read.val_main_call2_v14 Cert.ReferenceIdeal.Read.val_main_call2_v13 Cert.ReferenceIdeal.Read.val_main_call2_v12 Cert.ReferenceIdeal.Read.val_main_call2_c_3 Cert.ReferenceIdeal.Read.val_main_call2_v11 Cert.ReferenceIdeal.Read.val_main_call2_v10 Cert.ReferenceIdeal.Read.val_main_call2_v9 Cert.ReferenceIdeal.Read.val_main_call2_v8 Cert.ReferenceIdeal.Read.val_main_call2_v7 Cert.ReferenceIdeal.Read.val_main_call2_v6 Cert.ReferenceIdeal.Read.val_main_call2_c_2 Cert.ReferenceIdeal.Read.val_main_call2_c_1 Cert.ReferenceIdeal.Read.val_main_call2_v5 Cert.ReferenceIdeal.Read.val_main_call2_v4 Cert.ReferenceIdeal.Read.val_main_call2_v3 Cert.ReferenceIdeal.Read.val_main_call2_v2 Cert.ReferenceIdeal.Read.val_main_call2_c_0 Cert.ReferenceIdeal.Read.val_main_call2_v1 Cert.ReferenceIdeal.Read.val_main_call2_v0 Cert.ReferenceIdeal.Read.val_main_call2_c
  generalize Cert.ReferenceIdeal.Read.val_main_v3 (F := Ideal) (a_ei m c) = v
  have h0 : (StableHlo.TRef.of (T := ⟨S10000x128, .f32⟩) main_arg0).ofBuf (W0 m ρ c (Proc.tc.devRef main_arg0)) = a_h m c := rfl
  rw [h0]
  have h1 : ∀ X, (StableHlo.TRef.of (T := ⟨S320000x128, .f32⟩) main_v25).toBuf (Val := Elt Ideal) X = X := fun _ => rfl
  refine (h1 _).trans ?_
  rfl

/-- The gathered padded coordinates of the source nodes, over the reference's own row numbers and in-range mask. -/
theorem xs_eq (c : Dev nD) : V17 m ρ c main_v26 =
    select (broadcastInDim S320000x16 ![0] bcast_S320000_S320000x16_0 (Cert.ReferenceIdeal.Read.val_main_call5_v12 (F := Ideal) (a_ei m c)))
        (Host.gather gather_S10000x16_S320000x1_S320000x16_1_0_n_n_0_1_116 (xpad m c) (Cert.ReferenceIdeal.Read.val_main_call5_v5 (F := Ideal) (a_ei m c)))
        (broadcastInDim S320000x16 ![] bcast_S_S320000x16 (constant (F := Ideal) S_ .f32 0x7FC00000#32)) := by
  show W17 m ρ c (Proc.devRef .tc main_v26) = _
  rw [W17_of m ρ c main_v26 (by decide), W16_of m ρ c main_v26 (by decide)]
  show StableHlo.after hostOps0_14 (W14 m ρ c) (Proc.devRef .tc main_v26) = _
  entry_read
  simp only [StableHlo.TRef.ofBuf_toBuf]
  have hv : (StableHlo.TRef.of (T := ⟨S320000, .i32⟩) main_v1).ofBuf (fun i => shapeCast main_v1.ty.shape
      (extractStridedSlice S1x320000 ![0, 0] (W0 m ρ c (Proc.tc.devRef main_arg2)) slices_S2x320000_S1x320000_0_0)
      shapeCasts_S1x320000_S320000 i) = Cert.ReferenceIdeal.Read.val_main_v1 (F := Ideal) (a_ei m c) := rfl
  rw [hv]
  unfold Cert.ReferenceIdeal.Read.val_main_call5_v12 Cert.ReferenceIdeal.Read.val_main_call5_c_3 Cert.ReferenceIdeal.Read.val_main_call5_v11 Cert.ReferenceIdeal.Read.val_main_call5_v10 Cert.ReferenceIdeal.Read.val_main_call5_v9 Cert.ReferenceIdeal.Read.val_main_call5_v8 Cert.ReferenceIdeal.Read.val_main_call5_v7 Cert.ReferenceIdeal.Read.val_main_call5_v6 Cert.ReferenceIdeal.Read.val_main_call5_c_2 Cert.ReferenceIdeal.Read.val_main_call5_c_1 Cert.ReferenceIdeal.Read.val_main_call5_v5 Cert.ReferenceIdeal.Read.val_main_call5_v4 Cert.ReferenceIdeal.Read.val_main_call5_v3 Cert.ReferenceIdeal.Read.val_main_call5_v2 Cert.ReferenceIdeal.Read.val_main_call5_c_0 Cert.ReferenceIdeal.Read.val_main_call5_v1 Cert.ReferenceIdeal.Read.val_main_call5_v0 Cert.ReferenceIdeal.Read.val_main_call5_c
  generalize Cert.ReferenceIdeal.Read.val_main_v1 (F := Ideal) (a_ei m c) = v
  have h0 : (StableHlo.TRef.of (T := ⟨S10000x3, .f32⟩) main_arg1).ofBuf (W0 m ρ c (Proc.tc.devRef main_arg1)) = a_x m c := rfl
  have h2 : (StableHlo.TRef.of (T := ⟨S_, .i32⟩) main_c_4).ofBuf (Val := Elt Ideal) (constantI S_ 32 0#32) = constantI S_ 32 0#32 := rfl
  rw [h0, h2]
  have h1 : ∀ X, (StableHlo.TRef.of (T := ⟨S320000x16, .f32⟩) main_v26).toBuf (Val := Elt Ideal) X = X := fun _ => rfl
  refine (h1 _).trans ?_
  rfl

/-- The gathered padded coordinates of the target nodes, over the reference's own row numbers and in-range mask. -/
theorem xd_eq (c : Dev nD) : V17 m ρ c main_v27 =
    select (broadcastInDim S320000x16 ![0] bcast_S320000_S320000x16_0 (Cert.ReferenceIdeal.Read.val_main_call6_v12 (F := Ideal) (a_ei m c)))
        (Host.gather gather_S10000x16_S320000x1_S320000x16_1_0_n_n_0_1_116 (xpad m c) (Cert.ReferenceIdeal.Read.val_main_call6_v5 (F := Ideal) (a_ei m c)))
        (broadcastInDim S320000x16 ![] bcast_S_S320000x16 (constant (F := Ideal) S_ .f32 0x7FC00000#32)) := by
  show W17 m ρ c (Proc.devRef .tc main_v27) = _
  rw [W17_of m ρ c main_v27 (by decide)]
  show StableHlo.after hostOps0_15 (W15 m ρ c) (Proc.devRef .tc main_v27) = _
  entry_read
  simp only [StableHlo.TRef.ofBuf_toBuf]
  have hv : (StableHlo.TRef.of (T := ⟨S320000, .i32⟩) main_v3).ofBuf (fun i => shapeCast main_v3.ty.shape
      (extractStridedSlice S1x320000 ![1, 0] (W0 m ρ c (Proc.tc.devRef main_arg2)) slices_S2x320000_S1x320000_1_0)
      shapeCasts_S1x320000_S320000 i) = Cert.ReferenceIdeal.Read.val_main_v3 (F := Ideal) (a_ei m c) := rfl
  rw [hv]
  unfold Cert.ReferenceIdeal.Read.val_main_call6_v12 Cert.ReferenceIdeal.Read.val_main_call6_c_3 Cert.ReferenceIdeal.Read.val_main_call6_v11 Cert.ReferenceIdeal.Read.val_main_call6_v10 Cert.ReferenceIdeal.Read.val_main_call6_v9 Cert.ReferenceIdeal.Read.val_main_call6_v8 Cert.ReferenceIdeal.Read.val_main_call6_v7 Cert.ReferenceIdeal.Read.val_main_call6_v6 Cert.ReferenceIdeal.Read.val_main_call6_c_2 Cert.ReferenceIdeal.Read.val_main_call6_c_1 Cert.ReferenceIdeal.Read.val_main_call6_v5 Cert.ReferenceIdeal.Read.val_main_call6_v4 Cert.ReferenceIdeal.Read.val_main_call6_v3 Cert.ReferenceIdeal.Read.val_main_call6_v2 Cert.ReferenceIdeal.Read.val_main_call6_c_0 Cert.ReferenceIdeal.Read.val_main_call6_v1 Cert.ReferenceIdeal.Read.val_main_call6_v0 Cert.ReferenceIdeal.Read.val_main_call6_c
  generalize Cert.ReferenceIdeal.Read.val_main_v3 (F := Ideal) (a_ei m c) = v
  have h0 : (StableHlo.TRef.of (T := ⟨S10000x3, .f32⟩) main_arg1).ofBuf (W0 m ρ c (Proc.tc.devRef main_arg1)) = a_x m c := rfl
  have h2 : (StableHlo.TRef.of (T := ⟨S_, .i32⟩) main_c_4).ofBuf (Val := Elt Ideal) (constantI S_ 32 0#32) = constantI S_ 32 0#32 := rfl
  rw [h0, h2]
  have h1 : ∀ X, (StableHlo.TRef.of (T := ⟨S320000x16, .f32⟩) main_v27).toBuf (Val := Elt Ideal) X = X := fun _ => rfl
  refine (h1 _).trans ?_
  rfl

/-- The row of target nodes, as the first region finds it. -/
theorem dst_eq (c : Dev nD) : V17 m ρ c main_v3 = Cert.ReferenceIdeal.Read.val_main_v3 (F := Ideal) (a_ei m c) := by
  show W17 m ρ c (Proc.devRef .tc main_v3) = _
  rw [W17_of m ρ c main_v3 (by decide), W16_of m ρ c main_v3 (by decide), W15_of m ρ c main_v3 (by decide), W14_of m ρ c main_v3 (by decide), W13_of m ρ c main_v3 (by decide), W12_of m ρ c main_v3 (by decide), W11_of m ρ c main_v3 (by decide), W10_of m ρ c main_v3 (by decide), W9_of m ρ c main_v3 (by decide), W8_of m ρ c main_v3 (by decide), W7_of m ρ c main_v3 (by decide), W6_of m ρ c main_v3 (by decide), W5_of m ρ c main_v3 (by decide), W4_of m ρ c main_v3 (by decide), W3_of m ρ c main_v3 (by decide), W2_of m ρ c main_v3 (by decide)]
  show StableHlo.after hostOps0 (W0 m ρ c) (Proc.devRef .tc main_v3) = _
  entry_read
  rfl

end Cert.KernelIdeal.Own

end
-- ==== Proof.Edge.lean ====
module

public import proofs.«01_k».proof.Proof.Gen.KernelIdeal.Frame
public import Idealize.ShloMosaic.Lib.Pipeline.ValueKit
public import Idealize.ShloMosaic.Lib.Pipeline.Covers

/-! The first region, over blocks of 2560 edges: what its two output arrays hold after the last block, as one
    formula of the arrays the region reads. -/

@[expose] public section
set_option maxRecDepth 16384
noncomputable section
open Idealize.ShloMosaic Idealize.ShloMosaic.TcCoe Idealize.SL.Sem
namespace Cert.KernelIdeal.Own
open Cert.KernelIdeal Cert.KernelIdeal.Gen
variable (V : (c : Dev nD) → (b : Ref sig .tc) → Buf (Elt Ideal) ((c : Thread nD τ).loc b))

/-- The activation `z ↦ z · σ(z)`. -/
def silu (z : EReal) : EReal := z * Ideal.logistic z

/-- The hidden edge feature before its second layer: the distance times a row plus a row, activated. -/
def edgeHid (D : FVec Ideal S320000x1 .f32) (we1 be1 : FVec Ideal S8x16 .f32) (e : Fin 320000) (i : Fin 16) : EReal :=
  silu (D (ix2 e 0) * we1 (ix2 0 i) + be1 (ix2 0 i))

/-- The edge feature. -/
def edgeFeat (D : FVec Ideal S320000x1 .f32) (we1 be1 : FVec Ideal S8x16 .f32) (We2 : FVec Ideal S16x16 .f32)
    (be2 : FVec Ideal S8x16 .f32) (e : Fin 320000) (j : Fin 16) : EReal :=
  (∑ i : Fin 16, edgeHid D we1 be1 e i * We2 (ix2 i j)) + be2 (ix2 0 j)

/-- The joint first layer of both edge networks, activated: columns 0 to 127 are the node network's, columns 128
    to 255 the coordinate network's. -/
def act (D : FVec Ideal S320000x1 .f32) (hs hd : FVec Ideal S320000x128 .f32) (w1s w1d : FVec Ideal S128x256 .f32)
    (w1e : FVec Ideal S16x256 .f32) (b1 : FVec Ideal S8x256 .f32) (we1 be1 : FVec Ideal S8x16 .f32)
    (We2 : FVec Ideal S16x16 .f32) (be2 : FVec Ideal S8x16 .f32) (e : Fin 320000) (k : Fin 256) : EReal :=
  silu ((((∑ a : Fin 128, hs (ix2 e a) * w1s (ix2 a k)) + ∑ a : Fin 128, hd (ix2 e a) * w1d (ix2 a k))
    + ∑ j : Fin 16, edgeFeat D we1 be1 We2 be2 e j * w1e (ix2 j k)) + b1 (ix2 0 k))

/-- `act` over the arrays the region reads. -/
abbrev actV (c : Dev nD) : Fin 320000 → Fin 256 → EReal :=
  act (V c main_v28) (V c main_v24) (V c main_v25) (V c main_v6) (V c main_v9) (V c main_v12) (V c main_v15)
    (V c main_v16) (V c main_v18) (V c main_arg6) (V c main_v20)

/-- The first output array: the node network's activations. -/
def mArr (c : Dev nD) : FVec Ideal S320000x128 .f32 :=
  fun i => actV V c (show Fin 320000 from i 0) ⟨(show Fin 128 from i 1).val, by omega⟩

/-- The larger of a squared length's root and the printed floor. -/
def clampLen (s : EReal) : EReal := max (Ideal.sqrt s) (Ideal.ofBits .f32 0x322BCC77#32)

/-- The difference of two gathered coordinate rows in one column. -/
def diff (xs xd : FVec Ideal S320000x16 .f32) (e : Fin 320000) (q : Fin 16) : EReal := xs (ix2 e q) - xd (ix2 e q)

/-- Column 3 is one; every other column is the coordinate weight over the edge length, times the difference. -/
def cu (A : Fin 320000 → Fin 256 → EReal) (Wc2 : FVec Ideal S128x1 .f32) (xs xd : FVec Ideal S320000x16 .f32)
    (e : Fin 320000) (q : Fin 16) : EReal :=
  Scalar.select (IntOp.cmpi .eq (BitVec.ofNat 32 q.val) 3#32) (1 : EReal)
    (Ideal.div (∑ x : Fin 128, A e ⟨128 + x.val, by omega⟩ * Wc2 (ix2 x 0))
      (clampLen (∑ x : Fin 16, diff xs xd e x * diff xs xd e x)) * diff xs xd e q)

/-- The second output array. -/
def cuArr (c : Dev nD) : FVec Ideal S320000x16 .f32 := fun i =>
  cu (actV V c) (V c main_arg14) (V c main_v26) (V c main_v27) (show Fin 320000 from i 0) (show Fin 16 from i 1)

/-- Every window's block index at every grid point: the edge windows move one block per point, the weights stay. -/
theorem edge_idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![t.val, 0]
    ∧ win0_15.index t = ![t.val, 0] :=
  (by decide +kernel : ∀ t : Fin grid0.N, _)

/-- After the region the first output array is `mArr`. -/
theorem m_final (c : Dev nD) : (dat0 V c).arrAt 14 cfg0.N = mArr V c := by
  refine (dat0 V c).arrAt_eq_of_covers 14 _ (by decide +kernel) fun t _ y => ?_
  blk_simp
  rw [after0_14]
  frame_out
  pointwise [k0_pay2, k0_pay1, k0_pay5, k0_pay4, mArr, actV, act, silu, edgeFeat, edgeHid]
  blk_point [iblk0, edge_idx t]

/-- After the region the second output array is `cuArr`. -/
theorem cu_final (c : Dev nD) : (dat0 V c).arrAt 15 cfg0.N = cuArr V c := by
  refine (dat0 V c).arrAt_eq_of_covers 15 _ (by decide +kernel) fun t _ y => ?_
  blk_simp
  rw [after0_15]
  frame_out
  pointwise [k0_pay3, k0_pay1, k0_pay5, k0_pay4, cuArr, cu, diff, actV, act, silu, edgeFeat, edgeHid, clampLen]
  blk_point [iblk0, edge_idx t]

end Cert.KernelIdeal.Own

end
-- ==== Proof.Ref.lean ====
module

public import proofs.«01_k».proof.Proof.Gen.ReferenceIdeal.Read
public import proofs.«01_k».proof.Proof.Edge

/-! The reference's intermediate values at an index, given by its arguments. -/

@[expose] public section
set_option maxRecDepth 16384
noncomputable section
open Idealize.ShloMosaic Idealize.ShloMosaic.TcCoe Idealize.SL.Sem
namespace Cert.KernelIdeal.Own
open Cert.KernelIdeal Cert.KernelIdeal.Gen
open Cert.ReferenceIdeal.Read

/-- The printed one is one. -/
theorem one_lit : Ideal.ofBits .f32 0x3F800000#32 = 1 := Ideal.ofBits_one_f32

/-- The reference's activation, spelled out, is `silu`. -/
theorem silu_spelled (z : EReal) :
    z * Ideal.div (Ideal.ofBits .f32 0x3F800000#32) (Ideal.ofBits .f32 0x3F800000#32 + Ideal.exp (-z)) = silu z := by
  rw [one_lit]; rfl

variable (h : FVec Ideal S10000x128 .f32) (ei : IVec S2x320000 32) (dij : FVec Ideal S320000 .f32)
  (we1 : FVec Ideal S1x16 .f32) (be1 : FVec Ideal S16 .f32) (We2 : FVec Ideal S16x16 .f32) (be2 : FVec Ideal S16 .f32)

/-- The reference's edge feature. -/
def refFeat (e : Fin 320000) (j : Fin 16) : EReal :=
  (∑ i : Fin 16, silu (dij (ix1 e) * we1 (ix2 0 i) + be1 (ix1 i)) * We2 (ix2 i j)) + be2 (ix1 j)

/-- The reference's hidden layer of the edge features, entry by entry. -/
theorem hid_ref (e : Fin 320000) (i : Fin 16) : val_main_v9 (F := Ideal) dij we1 be1 (ix2 e i)
    = silu (dij (ix1 e) * we1 (ix2 0 i) + be1 (ix1 i)) := by
  have hz : val_main_v8 (F := Ideal) dij we1 be1 (ix2 e i) = dij (ix1 e) * we1 (ix2 0 i) + be1 (ix1 i) := by
    show val_main_v5 (F := Ideal) dij we1 (ix2 e i) + val_main_v7 (F := Ideal) be1 (ix2 e i) = _
    rw [val_main_v5_apply, Fin.sum_univ_one, val_main_v4_apply, val_main_v7_apply, val_main_v6_apply]
    congr 1
    · congr 1
      · exact congrArg dij (funext fun a => by match a with | ⟨0, _⟩ => rfl)
      · exact congrArg we1 (funext fun a => by match a with | ⟨0, _⟩ => rfl | ⟨1, _⟩ => rfl)
    · exact congrArg be1 (funext fun a => by match a with | ⟨0, _⟩ => rfl)
  rw [← hz]
  refine Eq.trans ?_ (silu_spelled _)
  rfl

/-- The reference's sixteen edge features, entry by entry. -/
theorem feat_ref (e : Fin 320000) (j : Fin 16) : val_main_v13 (F := Ideal) dij we1 be1 We2 be2 (ix2 e j)
    = refFeat dij we1 be1 We2 be2 e j := by
  show val_main_v10 (F := Ideal) dij we1 be1 We2 (ix2 e j) + val_main_v12 (F := Ideal) be2 (ix2 e j) = _
  unfold refFeat
  rw [val_main_v10_apply, val_main_v12_apply, val_main_v11_apply]
  congr 1
  · refine Finset.sum_congr rfl fun i _ => ?_
    rw [← hid_ref]
    congr 1
    · exact congrArg _ (funext fun a => by match a with | ⟨0, _⟩ => rfl | ⟨1, _⟩ => rfl)
    · exact congrArg We2 (funext fun a => by match a with | ⟨0, _⟩ => rfl | ⟨1, _⟩ => rfl)
  · exact congrArg be2 (funext fun a => by match a with | ⟨0, _⟩ => rfl)

/-- A sum over 272 columns is the sum over the first 128, the next 128 and the last 16. -/
theorem sum272 (f : Fin 272 → EReal) : ∑ k, f k = ((∑ a : Fin 128, f ⟨0 + a.val, by omega⟩)
    + ∑ a : Fin 128, f ⟨128 + a.val, by omega⟩) + ∑ j : Fin 16, f ⟨256 + j.val, by omega⟩ := by
  have h1 := Fin.sum_univ_add (a := 256) (b := 16) f
  have h2 := Fin.sum_univ_add (a := 128) (b := 128) fun k => f (Fin.castAdd 16 k)
  rw [h1, h2]
  refine congrArg₂ (· + ·) (congrArg₂ (· + ·) ?_ ?_) ?_
  · exact Finset.sum_congr rfl fun a _ => congrArg f (Fin.ext (by simp))
  · exact Finset.sum_congr rfl fun a _ => congrArg f (Fin.ext (by simp; omega))
  · exact Finset.sum_congr rfl fun a _ => congrArg f (Fin.ext (by simp))

/-- The three groups of columns of the joined edge input. -/
theorem cat_s (e : Fin 320000) (a : Fin 128) : val_main_v16 (F := Ideal) h ei dij we1 be1 We2 be2 (ix2 e (⟨0 + a.val, by omega⟩ : Fin 272))
    = val_main_v14 (F := Ideal) h ei (ix2 e a) := by
  unfold val_main_v16
  generalize val_main_v14 (F := Ideal) h ei = A
  generalize val_main_v15 (F := Ideal) h ei = B
  generalize val_main_v13 (F := Ideal) dij we1 be1 We2 be2 = C
  pointwise

/-- Lanes 128 to 255 of the joined input row are the destination node's features. -/
theorem cat_d (e : Fin 320000) (a : Fin 128) : val_main_v16 (F := Ideal) h ei dij we1 be1 We2 be2 (ix2 e (⟨128 + a.val, by omega⟩ : Fin 272))
    = val_main_v15 (F := Ideal) h ei (ix2 e a) := by
  unfold val_main_v16
  generalize val_main_v14 (F := Ideal) h ei = A
  generalize val_main_v15 (F := Ideal) h ei = B
  generalize val_main_v13 (F := Ideal) dij we1 be1 We2 be2 = C
  pointwise

/-- Lanes 256 to 271 of the joined input row are the edge features. -/
theorem cat_e (e : Fin 320000) (j : Fin 16) : val_main_v16 (F := Ideal) h ei dij we1 be1 We2 be2 (ix2 e (⟨256 + j.val, by omega⟩ : Fin 272))
    = val_main_v13 (F := Ideal) dij we1 be1 We2 be2 (ix2 e j) := by
  unfold val_main_v16
  generalize val_main_v14 (F := Ideal) h ei = A
  generalize val_main_v15 (F := Ideal) h ei = B
  generalize val_main_v13 (F := Ideal) dij we1 be1 We2 be2 = C
  pointwise
  rw [dif_neg (by omega), dif_neg (by omega)]
  refine congrArg C (congrArg (ix2 e) (Fin.ext ?_))
  show 256 + j.val - 128 - 128 = j.val
  omega

/-- The first layer of an edge network in the reference, activated: weight `w`, bias `b`. -/
def refAct (hs hd : FVec Ideal S320000x128 .f32) (w : FVec Ideal Cert.ReferenceIdeal.S272x128 .f32) (b : FVec Ideal S128 .f32)
    (e : Fin 320000) (k : Fin 128) : EReal :=
  silu ((((∑ a : Fin 128, hs (ix2 e a) * w (ix2 (⟨0 + a.val, by omega⟩ : Fin 272) k))
    + ∑ a : Fin 128, hd (ix2 e a) * w (ix2 (⟨128 + a.val, by omega⟩ : Fin 272) k))
    + ∑ j : Fin 16, refFeat dij we1 be1 We2 be2 e j * w (ix2 (⟨256 + j.val, by omega⟩ : Fin 272) k)) + b (ix1 k))

variable (w : FVec Ideal Cert.ReferenceIdeal.S272x128 .f32) (b : FVec Ideal S128 .f32)

/-- The reference's node-network activations. -/
theorem node_ref (e : Fin 320000) (k : Fin 128) : val_main_v21 (F := Ideal) h ei dij we1 be1 We2 be2 w b (ix2 e k)
    = refAct dij we1 be1 We2 be2 (val_main_v14 (F := Ideal) h ei) (val_main_v15 (F := Ideal) h ei) w b e k := by
  have hz : val_main_v20 (F := Ideal) h ei dij we1 be1 We2 be2 w b (ix2 e k) = (((∑ a : Fin 128, val_main_v14 (F := Ideal) h ei (ix2 e a) * w (ix2 (⟨0 + a.val, by omega⟩ : Fin 272) k))
    + ∑ a : Fin 128, val_main_v15 (F := Ideal) h ei (ix2 e a) * w (ix2 (⟨128 + a.val, by omega⟩ : Fin 272) k))
    + ∑ j : Fin 16, refFeat dij we1 be1 We2 be2 e j * w (ix2 (⟨256 + j.val, by omega⟩ : Fin 272) k)) + b (ix1 k) := by
    rw [val_main_v20_apply, Ideal.addf_def, val_main_v17_apply, val_main_v19_apply, val_main_v18_apply]
    have hl : ∀ q : Fin 272, lidx_main_v17 (ix2 e k) q = ix2 e q := fun q => funext fun a => by match a with | ⟨0, _⟩ => rfl | ⟨1, _⟩ => rfl
    have hr : ∀ q : Fin 272, ridx_main_v17 (ix2 e k) q = ix2 q k := fun q => funext fun a => by match a with | ⟨0, _⟩ => rfl | ⟨1, _⟩ => rfl
    refine congrArg₂ (· + ·) ?_ ?_
    · simp only [hl, hr]
      rw [sum272]
      simp only [cat_s, cat_d, cat_e, feat_ref]
    · exact congrArg b (funext fun a => by match a with | ⟨0, _⟩ => rfl)
  unfold refAct
  rw [← hz]
  rw [val_main_v21_apply, val_main_call3_v5_apply, val_main_call3_v3_apply, val_main_call3_v1_apply, val_main_call3_v0_apply, val_main_call3_v4_apply,
    val_main_call3_v2_apply]
  generalize val_main_v20 (F := Ideal) h ei dij we1 be1 We2 be2 w b (ix2 e k) = z
  exact silu_spelled z

/-- The reference's coordinate-network activations. -/
theorem coord_ref (e : Fin 320000) (k : Fin 128) : val_main_v33 (F := Ideal) h ei dij we1 be1 We2 be2 w b (ix2 e k)
    = refAct dij we1 be1 We2 be2 (val_main_v14 (F := Ideal) h ei) (val_main_v15 (F := Ideal) h ei) w b e k := by
  have hz : val_main_v32 (F := Ideal) h ei dij we1 be1 We2 be2 w b (ix2 e k) = (((∑ a : Fin 128, val_main_v14 (F := Ideal) h ei (ix2 e a) * w (ix2 (⟨0 + a.val, by omega⟩ : Fin 272) k))
    + ∑ a : Fin 128, val_main_v15 (F := Ideal) h ei (ix2 e a) * w (ix2 (⟨128 + a.val, by omega⟩ : Fin 272) k))
    + ∑ j : Fin 16, refFeat dij we1 be1 We2 be2 e j * w (ix2 (⟨256 + j.val, by omega⟩ : Fin 272) k)) + b (ix1 k) := by
    rw [val_main_v32_apply, Ideal.addf_def, val_main_v29_apply, val_main_v31_apply, val_main_v30_apply]
    have hl : ∀ q : Fin 272, lidx_main_v29 (ix2 e k) q = ix2 e q := fun q => funext fun a => by match a with | ⟨0, _⟩ => rfl | ⟨1, _⟩ => rfl
    have hr : ∀ q : Fin 272, ridx_main_v29 (ix2 e k) q = ix2 q k := fun q => funext fun a => by match a with | ⟨0, _⟩ => rfl | ⟨1, _⟩ => rfl
    refine congrArg₂ (· + ·) ?_ ?_
    · simp only [hl, hr]
      rw [sum272]
      simp only [cat_s, cat_d, cat_e, feat_ref]
    · exact congrArg b (funext fun a => by match a with | ⟨0, _⟩ => rfl)
  unfold refAct
  rw [← hz]
  rw [val_main_v33_apply, val_main_call4_v5_apply, val_main_call4_v3_apply, val_main_call4_v1_apply, val_main_call4_v0_apply, val_main_call4_v4_apply,
    val_main_call4_v2_apply]
  generalize val_main_v32 (F := Ideal) h ei dij we1 be1 We2 be2 w b (ix2 e k) = z
  exact silu_spelled z

/-- The reference's value added into a node's row by one edge. -/
theorem upd_ref (Wn2 : FVec Ideal S128x128 .f32) (bn2 : FVec Ideal S128 .f32) (e : Fin 320000) (j : Fin 128) :
    val_main_v25 (F := Ideal) h ei dij we1 be1 We2 be2 w b Wn2 bn2 (ix2 e j)
      = (∑ k : Fin 128, refAct dij we1 be1 We2 be2 (val_main_v14 (F := Ideal) h ei) (val_main_v15 (F := Ideal) h ei) w b e k * Wn2 (ix2 k j)) + bn2 (ix1 j) := by
  rw [val_main_v25_apply, Ideal.addf_def, val_main_v22_apply, val_main_v24_apply, val_main_v23_apply]
  refine congrArg₂ (· + ·) ?_ ?_
  · refine Finset.sum_congr rfl fun k _ => ?_
    rw [← node_ref]
    refine congrArg₂ (· * ·) ?_ ?_
    · exact congrArg _ (funext fun a => by match a with | ⟨0, _⟩ => rfl | ⟨1, _⟩ => rfl)
    · exact congrArg Wn2 (funext fun a => by match a with | ⟨0, _⟩ => rfl | ⟨1, _⟩ => rfl)
  · exact congrArg bn2 (funext fun a => by match a with | ⟨0, _⟩ => rfl)

/-- The reference's squared edge length. -/
theorem sq_ref (x : FVec Ideal S10000x3 .f32) (e : Fin 320000) (j : Cert.ReferenceIdeal.S320000.Idx) (hj : j = ix1 e) :
    val_main_call7_v1 (F := Ideal) x ei j
      = 0 + ∑ k : Fin 3, val_main_v37 (F := Ideal) x ei (ix2 e k) * val_main_v37 (F := Ideal) x ei (ix2 e k) := by
  subst hj
  rw [val_main_call7_v1_apply]
  refine congrArg₂ (· + ·) Ideal.ofBits_zero_f32 (Finset.sum_congr rfl fun k _ => ?_)
  rw [val_main_call7_v0_apply, Ideal.mulf_def]
  have hi : idx_main_call7_v1 (ix1 e) k = ix2 e k := funext fun a => by match a with | ⟨0, _⟩ => rfl | ⟨1, _⟩ => rfl
  rw [hi]

/-- The reference's coordinate displacement of one edge. -/
theorem cu_ref (x : FVec Ideal S10000x3 .f32) (Wc2 : FVec Ideal S128x1 .f32) (e : Fin 320000) (q : Fin 3) :
    val_main_v44 (F := Ideal) h x ei dij we1 be1 We2 be2 w b Wc2 (ix2 e q)
      = (∑ k : Fin 128, refAct dij we1 be1 We2 be2 (val_main_v14 (F := Ideal) h ei) (val_main_v15 (F := Ideal) h ei) w b e k * Wc2 (ix2 k 0))
        * Ideal.div (val_main_v37 (F := Ideal) x ei (ix2 e q))
            (clampLen (0 + ∑ k : Fin 3, val_main_v37 (F := Ideal) x ei (ix2 e k) * val_main_v37 (F := Ideal) x ei (ix2 e k))) := by
  rw [val_main_v44_apply, Ideal.mulf_def, val_main_v42_apply, Ideal.hostDivf_def]
  refine congrArg₂ (· * ·) ?_ ?_
  · rw [val_main_v43_apply, val_main_v34_apply]
    refine Finset.sum_congr rfl fun k _ => ?_
    rw [← coord_ref]
    refine congrArg₂ (· * ·) ?_ ?_
    · exact congrArg _ (funext fun a => by match a with | ⟨0, _⟩ => rfl | ⟨1, _⟩ => rfl)
    · exact congrArg Wc2 (funext fun a => by match a with | ⟨0, _⟩ => rfl | ⟨1, _⟩ => rfl)
  · refine congrArg (Ideal.div _) ?_
    rw [val_main_v41_apply, val_main_v40_apply, Ideal.maximumf_def, val_main_v38_apply, val_main_v39_apply, val_main_call7_v2_apply,
      sq_ref ei x e _ (funext fun a => by match a with | ⟨0, _⟩ => rfl)]
    generalize (0 + ∑ k : Fin 3, val_main_v37 (F := Ideal) x ei (ix2 e k) * val_main_v37 (F := Ideal) x ei (ix2 e k)) = s
    rfl

end Cert.KernelIdeal.Own

end
-- ==== Proof.Take.lean ====
module

public import proofs.«01_k».proof.Proof.Host
public import Idealize.ShloMosaic.Lib.Routing.Ops
public import Idealize.ShloMosaic.Lib.Affine
public import Idealize.ShloMosaic.Lib.ReduceAll

/-! The rows of positions the edges read. A row number that fits the table selects its row; any other reads as the
    not-a-number pattern in every column. Both programs decide by the same test, so one choice serves both. -/

@[expose] public section
set_option maxRecDepth 16384
noncomputable section
open Idealize.ShloMosaic Idealize.ShloMosaic.TcCoe Idealize.SL.Sem
namespace Cert.KernelIdeal.Own
open Cert.KernelIdeal Cert.KernelIdeal.Gen
open Cert.ReferenceIdeal.Read

/-- A word between 0 and 9999, read signed, is one of the numbers below 10000. -/
theorem word_row (w : BitVec 32) (h0 : IntOp.cmpi .sge w 0#32 = 1#1) (h1 : IntOp.cmpi .sle w 9999#32 = 1#1) :
    ∃ b : Fin 10000, w = BitVec.ofNat 32 b.val := by
  have h0' : (0#32 : BitVec 32).toInt ≤ w.toInt := IntOp.cmpi_sge.1 h0
  have h1' : w.toInt ≤ (9999#32 : BitVec 32).toInt := IntOp.cmpi_sle.1 h1
  have e0 : (0#32 : BitVec 32).toInt = 0 := by decide
  have e1 : (9999#32 : BitVec 32).toInt = 9999 := by decide
  rw [e0] at h0'
  rw [e1] at h1'
  have hb : w.toInt = (w.toNat : Int) ∨ w.toInt = (w.toNat : Int) - 2 ^ 32 := by
    rw [BitVec.toInt_eq_toNat_cond]; split <;> simp
  have hlt : w.toNat < 2 ^ 32 := w.isLt
  refine ⟨⟨w.toNat, by omega⟩, ?_⟩
  exact BitVec.eq_of_toNat_eq (by rw [BitVec.toNat_ofNat, Nat.mod_eq_of_lt hlt])

/-- The sender's row number either is in range and passes the test, or the test fails. -/
theorem row5 (ei : IVec S2x320000 32) (e : Fin 320000) :
    (∃ b : Fin 10000, val_main_call5_v5 (F := Ideal) ei (ix2 e 0) = BitVec.ofNat 32 b.val
      ∧ val_main_call5_v12 (F := Ideal) ei (ix1 e) = 1#1) ∨ val_main_call5_v12 (F := Ideal) ei (ix1 e) ≠ 1#1 := by
  by_cases h : val_main_call5_v12 (F := Ideal) ei (ix1 e) = 1#1
  · left
    have h11 := Host.reduce_andi_eq_one _ _ _ _ (ix1 e) h (ix2 e 0) (by funext a; match a with | ⟨0, _⟩ => rfl)
    have h11' : IntOp.andi (IntOp.cmpi .sge (val_main_call5_v5 (F := Ideal) ei (ix2 e 0)) 0#32) (IntOp.cmpi .sle (val_main_call5_v5 (F := Ideal) ei (ix2 e 0)) 9999#32) = 1#1 := h11
    obtain ⟨ha, hb⟩ := IntOp.andi_eq_one.1 h11'
    obtain ⟨b, hb⟩ := word_row _ ha hb
    exact ⟨b, hb, h⟩
  · exact .inr h

/-- The receiver's row number either is in range and passes the test, or the test fails. -/
theorem row6 (ei : IVec S2x320000 32) (e : Fin 320000) :
    (∃ b : Fin 10000, val_main_call6_v5 (F := Ideal) ei (ix2 e 0) = BitVec.ofNat 32 b.val
      ∧ val_main_call6_v12 (F := Ideal) ei (ix1 e) = 1#1) ∨ val_main_call6_v12 (F := Ideal) ei (ix1 e) ≠ 1#1 := by
  by_cases h : val_main_call6_v12 (F := Ideal) ei (ix1 e) = 1#1
  · left
    have h11 := Host.reduce_andi_eq_one _ _ _ _ (ix1 e) h (ix2 e 0) (by funext a; match a with | ⟨0, _⟩ => rfl)
    have h11' : IntOp.andi (IntOp.cmpi .sge (val_main_call6_v5 (F := Ideal) ei (ix2 e 0)) 0#32) (IntOp.cmpi .sle (val_main_call6_v5 (F := Ideal) ei (ix2 e 0)) 9999#32) = 1#1 := h11
    obtain ⟨ha, hb⟩ := IntOp.andi_eq_one.1 h11'
    obtain ⟨b, hb⟩ := word_row _ ha hb
    exact ⟨b, hb, h⟩
  · exact .inr h

/-- The not-a-number pattern stands for minus infinity. -/
theorem nan_bot : Ideal.ofBits .f32 0x7FC00000#32 = ⊥ := by simp [Ideal.ofBits, Ideal.ieee]

section
variable {C : Nat} (d : GatherDims ⟨2, ![10000, C]⟩ ⟨2, ![320000, 1]⟩ ⟨2, ![320000, C]⟩)
  (hb : (⟨1, ![320000]⟩ : Shape).BroadcastsInDim ⟨2, ![320000, C]⟩ ![0])
  (hn : (⟨0, ![]⟩ : Shape).BroadcastsInDim ⟨2, ![320000, C]⟩ ![])
  (x : FVec Ideal ⟨2, ![10000, C]⟩ .f32) (idx : IVec ⟨2, ![320000, 1]⟩ 32) (bit : IVec ⟨1, ![320000]⟩ 1)
  (e : Fin 320000) (k : Fin C)

/-- A column of values spread along the rows reads its row's value. -/
theorem spread_row : broadcastInDim ⟨2, ![320000, C]⟩ ![0] hb bit (ix2 e k) = bit (ix1 e) := by
  unfold broadcastInDim
  refine congrArg bit (funext fun a => ?_)
  match a with
  | ⟨0, _⟩ => rw [dif_neg (by show ¬(320000 = 1); decide)]; rfl

/-- A masked row read where the test holds: the row of the table. -/
theorem sel_some (hoff : d.offsetDims = [1]) (hcoll : d.collapsedSliceDims = [0]) (hob : d.operandBatchingDims = [])
    (hsim : d.startIndexMap = [0]) (hivd : d.indexVectorDim = 1) (y : FVec Ideal ⟨2, ![320000, C]⟩ .f32)
    (b : Fin 10000) (hi : idx (ix2 e 0) = BitVec.ofNat 32 b.val) (h1 : bit (ix1 e) = 1#1) :
    select (broadcastInDim ⟨2, ![320000, C]⟩ ![0] hb bit) (Host.gather d x idx) y (ix2 e k) = x (ix2 b k) := by
  have hc : broadcastInDim ⟨2, ![320000, C]⟩ ![0] hb bit (ix2 e k) = 1#1 := by
    rw [spread_row]; exact h1
  refine (if_pos hc).trans ?_
  exact Routing.gather_row d hoff hcoll hob hsim hivd x idx e k b hi (by decide)

/-- A masked row read where the test fails: minus infinity. -/
theorem sel_none (g : FVec Ideal ⟨2, ![320000, C]⟩ .f32) (h1 : bit (ix1 e) ≠ 1#1) :
    select (broadcastInDim ⟨2, ![320000, C]⟩ ![0] hb bit) g
      (broadcastInDim ⟨2, ![320000, C]⟩ ![] hn (constant (F := Ideal) ⟨0, ![]⟩ .f32 0x7FC00000#32)) (ix2 e k) = (⊥ : EReal) := by
  have hc : broadcastInDim ⟨2, ![320000, C]⟩ ![0] hb bit (ix2 e k) ≠ 1#1 := by
    rw [spread_row]; exact h1
  refine (if_neg hc).trans ?_
  exact nan_bot

end

variable (m : (ℓ : Loc nD τ sig) → Buf (Elt Ideal) ℓ) (ρ : Dev nD → PrngReg) (c : Dev nD)

/-- **The sender's position**, in both programs: the row of one node, or minus infinity throughout. -/
theorem xs_row (e : Fin 320000) : ∃ o : Option (Fin 10000),
    (∀ k : Fin 16, (V17 m ρ c main_v26 : FVec Ideal S320000x16 .f32) (ix2 e k) = o.elim (⊥ : EReal) fun b => xpad m c (ix2 b k))
    ∧ ∀ q : Fin 3, val_main_v35 (F := Ideal) (a_x m c) (a_ei m c) (ix2 e q) = o.elim (⊥ : EReal) fun b => a_x m c (ix2 b q) := by
  rw [xs_eq]
  unfold val_main_v35 val_main_call5_v14 val_main_call5_v13 val_main_call5_v15 val_main_call5_cst
  have h := row5 (a_ei m c) e
  generalize val_main_call5_v5 (F := Ideal) (a_ei m c) = idx at h ⊢
  generalize val_main_call5_v12 (F := Ideal) (a_ei m c) = bit at h ⊢
  rcases h with ⟨b, hb, h1⟩ | h1
  · exact ⟨some b, fun k => sel_some _ _ _ _ _ e k rfl rfl rfl rfl rfl _ b hb h1,
      fun q => sel_some _ _ _ _ _ e q rfl rfl rfl rfl rfl _ b hb h1⟩
  · exact ⟨none, fun k => sel_none _ _ _ e k _ h1, fun q => sel_none _ _ _ e q _ h1⟩

/-- **The receiver's position**, in both programs: the row of one node, or minus infinity throughout. -/
theorem xd_row (e : Fin 320000) : ∃ o : Option (Fin 10000),
    (∀ k : Fin 16, (V17 m ρ c main_v27 : FVec Ideal S320000x16 .f32) (ix2 e k) = o.elim (⊥ : EReal) fun b => xpad m c (ix2 b k))
    ∧ ∀ q : Fin 3, val_main_v36 (F := Ideal) (a_x m c) (a_ei m c) (ix2 e q) = o.elim (⊥ : EReal) fun b => a_x m c (ix2 b q) := by
  rw [xd_eq]
  unfold val_main_v36 val_main_call6_v14 val_main_call6_v13 val_main_call6_v15 val_main_call6_cst
  have h := row6 (a_ei m c) e
  generalize val_main_call6_v5 (F := Ideal) (a_ei m c) = idx at h ⊢
  generalize val_main_call6_v12 (F := Ideal) (a_ei m c) = bit at h ⊢
  rcases h with ⟨b, hb, h1⟩ | h1
  · exact ⟨some b, fun k => sel_some _ _ _ _ _ e k rfl rfl rfl rfl rfl _ b hb h1,
      fun q => sel_some _ _ _ _ _ e q rfl rfl rfl rfl rfl _ b hb h1⟩
  · exact ⟨none, fun k => sel_none _ _ _ e k _ h1, fun q => sel_none _ _ _ e q _ h1⟩

end Cert.KernelIdeal.Own

end
-- ==== Proof.Algebra.lean ====
module

public import Idealize.ShloMosaic.PureOps.Ideal.Laws
public import Idealize.ShloMosaic.Lib.Pointwise
public import proofs.«01_k».proof.Proof.Edge

/-! The extended-real identities the comparison rests on: a finite factor distributes over a sum none of whose
    terms is minus infinity, the activation is never minus infinity, and squares that contain an infinite term sum to
    plus infinity. -/

@[expose] public section
set_option maxRecDepth 16384
noncomputable section
open Idealize.ShloMosaic
namespace Cert.KernelIdeal.Own

/-- A sum of terms none of which is minus infinity is not minus infinity. -/
theorem sum_ne_bot {ι : Type} (s : Finset ι) (f : ι → EReal) (h : ∀ i ∈ s, f i ≠ ⊥) : ∑ i ∈ s, f i ≠ ⊥ := by
  classical
  induction s using Finset.induction_on with
  | empty => simp
  | insert a s ha ih =>
    rw [Finset.sum_insert ha]
    rw [Ne, EReal.add_eq_bot_iff, not_or]
    exact ⟨h a (Finset.mem_insert_self a s), ih fun i hi => h i (Finset.mem_insert_of_mem hi)⟩

/-- A finite factor distributes over a sum of two terms, neither minus infinity. -/
theorem add_mul_fin (a b : EReal) (ha : a ≠ ⊥) (hb : b ≠ ⊥) (w : ℝ) : (a + b) * (w : EReal) = a * w + b * w := by
  induction a with
  | bot => exact absurd rfl ha
  | top =>
    rw [EReal.top_add_of_ne_bot hb]
    rcases lt_trichotomy w 0 with hw | hw | hw
    · rw [EReal.top_mul_coe_of_neg hw, EReal.bot_add]
    · subst hw; simp
    · rw [EReal.top_mul_coe_of_pos hw]
      refine (EReal.top_add_of_ne_bot ?_).symm
      induction b with
      | bot => exact absurd rfl hb
      | top => rw [EReal.top_mul_coe_of_pos hw]; exact fun h => nomatch h
      | coe b => rw [← EReal.coe_mul]; exact EReal.coe_ne_bot _
  | coe a =>
    induction b with
    | bot => exact absurd rfl hb
    | top =>
      rw [EReal.coe_add_top]
      rcases lt_trichotomy w 0 with hw | hw | hw
      · rw [EReal.top_mul_coe_of_neg hw, EReal.add_bot]
      · subst hw; simp
      · rw [EReal.top_mul_coe_of_pos hw, ← EReal.coe_mul, EReal.coe_add_top]
    | coe b => rw [← EReal.coe_add, ← EReal.coe_mul, ← EReal.coe_mul, ← EReal.coe_mul, ← EReal.coe_add, add_mul]

/-- A finite factor distributes over a finite sum none of whose terms is minus infinity. -/
theorem sum_mul_fin {ι : Type} (s : Finset ι) (f : ι → EReal) (h : ∀ i ∈ s, f i ≠ ⊥) (w : ℝ) :
    (∑ i ∈ s, f i) * (w : EReal) = ∑ i ∈ s, f i * w := by
  classical
  induction s using Finset.induction_on with
  | empty => simp
  | insert a s ha ih =>
    have hs : ∀ i ∈ s, f i ≠ ⊥ := fun i hi => h i (Finset.mem_insert_of_mem hi)
    rw [Finset.sum_insert ha, Finset.sum_insert ha, add_mul_fin _ _ (h a (Finset.mem_insert_self a s)) (sum_ne_bot s f hs), ih hs]

/-- A count of ones times any value is that value added up as often. -/
theorem count_mul {ι : Type} (s : Finset ι) (p : ι → Prop) [DecidablePred p] (b : EReal) :
    (∑ i ∈ s, if p i then (1 : EReal) else 0) * b = ∑ i ∈ s, if p i then b else 0 := by
  classical
  have hpos : ∀ s : Finset ι, 0 ≤ ∑ i ∈ s, (if p i then (1 : EReal) else 0) := fun s =>
    Finset.sum_nonneg fun i _ => by split <;> simp
  induction s using Finset.induction_on with
  | empty => simp
  | insert a s ha ih =>
    rw [Finset.sum_insert ha, Finset.sum_insert ha, EReal.right_distrib_of_nonneg (by split <;> simp) (hpos s), ih]
    congr 1
    split <;> simp

/-- The activation is never minus infinity. -/
theorem silu_ne_bot (z : EReal) : silu z ≠ ⊥ := by
  unfold silu
  induction z with
  | bot =>
    have h : Ideal.logistic ⊥ = 0 := by
      show Ideal.div 1 (1 + Ideal.exp (-⊥)) = 0
      rw [EReal.neg_bot]
      show Ideal.div 1 (1 + ⊤) = 0
      have h1 : (1 : EReal) + ⊤ = ⊤ := EReal.add_top_of_ne_bot (by decide)
      rw [h1]
      unfold Ideal.div
      rw [if_neg (by decide), EReal.inv_top, mul_zero]
    rw [h, mul_zero]
    exact EReal.zero_ne_bot
  | top =>
    have h : Ideal.logistic ⊤ = 1 := by
      show Ideal.div 1 (1 + Ideal.exp (-⊤)) = 1
      rw [EReal.neg_top]
      show Ideal.div 1 (1 + 0) = 1
      rw [add_zero]
      unfold Ideal.div
      rw [if_neg one_ne_zero, one_mul]
      show (((1 : ℝ)⁻¹ : ℝ) : EReal) = 1
      rw [inv_one]; rfl
    rw [h, mul_one]
    exact fun h => nomatch h
  | coe z =>
    have hp : (1 : ℝ) + Real.exp (-z) ≠ 0 := (by have := Real.exp_pos (-z); linarith : (0 : ℝ) < 1 + Real.exp (-z)).ne'
    have h : Ideal.logistic (z : EReal) = (((1 + Real.exp (-z))⁻¹ : ℝ) : EReal) := by
      show Ideal.div 1 (1 + Ideal.exp (-(z : EReal))) = _
      rw [← EReal.coe_neg]
      show Ideal.div 1 (1 + ((Real.exp (-z) : ℝ) : EReal)) = _
      rw [← EReal.coe_one, ← EReal.coe_add]
      unfold Ideal.div
      rw [if_neg (by rw [← EReal.coe_zero]; exact fun h => hp (EReal.coe_eq_coe_iff.1 h)), EReal.coe_one, one_mul, EReal.coe_inv]
    rw [h, ← EReal.coe_mul]
    exact EReal.coe_ne_bot _

/-- Multiplication moves past a division by a nonzero value. -/
theorem div_mul_comm' (w l d : EReal) (hl : l ≠ 0) : Ideal.div w l * d = w * Ideal.div d l := by
  unfold Ideal.div
  rw [if_neg hl, if_neg hl, mul_assoc, mul_comm l⁻¹ d]

/-- A product of a value with itself is not negative. -/
theorem sq_nonneg' (z : EReal) : 0 ≤ z * z := by
  induction z with
  | bot => simp
  | top => simp
  | coe z => rw [← EReal.coe_mul]; exact EReal.coe_nonneg.2 (mul_self_nonneg z)

/-- Nonnegative terms one of which is plus infinity sum to plus infinity. -/
theorem sum_top {n : Nat} (f : Fin n → EReal) (h : ∀ i, 0 ≤ f i) (i : Fin n) (hi : f i = ⊤) : ∑ i, f i = ⊤ := by
  have := Finset.single_le_sum (f := f) (s := Finset.univ) (fun j _ => h j) (Finset.mem_univ i)
  rw [hi] at this
  exact top_le_iff.1 this

end Cert.KernelIdeal.Own

end
-- ==== Proof.Match.lean ====
module

public import proofs.«01_k».proof.Proof.Host
public import proofs.«01_k».proof.Proof.Ref
public import proofs.«01_k».proof.Proof.Take
public import proofs.«01_k».proof.Proof.Algebra

/-! The first region's outputs are the reference's per-edge values. -/

@[expose] public section
set_option maxRecDepth 16384
noncomputable section
open Idealize.ShloMosaic Idealize.ShloMosaic.TcCoe Idealize.SL.Sem
namespace Cert.KernelIdeal.Own
open Cert.KernelIdeal Cert.KernelIdeal.Gen
open Cert.ReferenceIdeal.Read

/-- The joint first layer in one column is the reference's first layer in the column its weights come from. -/
theorem act_eq (D : FVec Ideal S320000x1 .f32) (hs hd : FVec Ideal S320000x128 .f32) (w1s w1d : FVec Ideal S128x256 .f32)
    (w1e : FVec Ideal S16x256 .f32) (b1 : FVec Ideal S8x256 .f32) (we1 be1 : FVec Ideal S8x16 .f32)
    (We2 : FVec Ideal S16x16 .f32) (be2 : FVec Ideal S8x16 .f32)
    (dij : FVec Ideal S320000 .f32) (we1' : FVec Ideal S1x16 .f32) (be1' : FVec Ideal S16 .f32) (be2' : FVec Ideal S16 .f32)
    (w : FVec Ideal Cert.ReferenceIdeal.S272x128 .f32) (b : FVec Ideal S128 .f32) (e : Fin 320000) (k : Fin 256) (k' : Fin 128)
    (hD : D (ix2 e 0) = dij (ix1 e)) (hwe1 : ∀ i : Fin 16, we1 (ix2 0 i) = we1' (ix2 0 i))
    (hbe1 : ∀ i : Fin 16, be1 (ix2 0 i) = be1' (ix1 i)) (hbe2 : ∀ i : Fin 16, be2 (ix2 0 i) = be2' (ix1 i))
    (hws : ∀ a : Fin 128, w1s (ix2 a k) = w (ix2 (⟨0 + a.val, by omega⟩ : Fin 272) k'))
    (hwd : ∀ a : Fin 128, w1d (ix2 a k) = w (ix2 (⟨128 + a.val, by omega⟩ : Fin 272) k'))
    (hwe : ∀ a : Fin 16, w1e (ix2 a k) = w (ix2 (⟨256 + a.val, by omega⟩ : Fin 272) k'))
    (hb : b1 (ix2 0 k) = b (ix1 k')) :
    act D hs hd w1s w1d w1e b1 we1 be1 We2 be2 e k = refAct dij we1' be1' We2 be2' hs hd w b e k' := by
  unfold act refAct edgeFeat refFeat edgeHid
  simp only [hD, hwe1, hbe1, hbe2, hws, hwd, hwe, hb]

variable (m : (ℓ : Loc nD τ sig) → Buf (Elt Ideal) ℓ) (ρ : Dev nD → PrngReg) (c : Dev nD)

/-- The node network's activations the reference computes, over the kernel's arguments. -/
def nodeAct (e : Fin 320000) (k : Fin 128) : EReal :=
  refAct (a_dij m c) (a_We1 m c) (a_be1 m c) (a_We2 m c) (a_be2 m c) (val_main_v14 (F := Ideal) (a_h m c) (a_ei m c))
    (val_main_v15 (F := Ideal) (a_h m c) (a_ei m c)) (a_Wn1 m c) (a_bn1 m c) e k

/-- The coordinate network's activations the reference computes, over the kernel's arguments. -/
def coordAct (e : Fin 320000) (k : Fin 128) : EReal :=
  refAct (a_dij m c) (a_We1 m c) (a_be1 m c) (a_We2 m c) (a_be2 m c) (val_main_v14 (F := Ideal) (a_h m c) (a_ei m c))
    (val_main_v15 (F := Ideal) (a_h m c) (a_ei m c)) (a_Wc1 m c) (a_bc1 m c) e k

/-- The weight array the region reads for the distances' second layer is the argument. -/
theorem we2_arg : V17 m ρ c main_arg6 = a_We2 m c := W17_args m ρ c main_arg6 (by decide)

/-- The coordinate weight column the region reads is the argument. -/
theorem wc2_arg : V17 m ρ c main_arg14 = a_Wc2 m c := W17_args m ρ c main_arg14 (by decide)

/-- The first 128 lanes of the kernel's wide activation are the reference's node activation. -/
theorem act_node (e : Fin 320000) (k : Fin 128) : actV (V17 m ρ) c e ⟨k.val, by omega⟩ = nodeAct m c e k := by
  have hk : k.val < 128 := k.isLt
  unfold actV nodeAct
  rw [hs_eq, hd_eq, we2_arg]
  exact act_eq _ _ _ _ _ _ _ _ _ _ _ _ _ _ _ _ _ _ _ _ (dij_at m ρ c e) (we1_at m ρ c) (be1_at m ρ c) (be2_at m ρ c)
    (fun a => (w1s_at m ρ c a _).trans (dif_pos hk)) (fun a => (w1d_at m ρ c a _).trans (dif_pos hk))
    (fun a => (w1e_at m ρ c a _).trans (dif_pos hk)) ((b1_at m ρ c _).trans (dif_pos hk))

/-- The last 128 lanes of the kernel's wide activation are the reference's coordinate activation. -/
theorem act_coord (e : Fin 320000) (k : Fin 128) : actV (V17 m ρ) c e ⟨128 + k.val, by omega⟩ = coordAct m c e k := by
  have hk : ¬(128 + k.val < 128) := by omega
  have hf : ∀ h : 128 + k.val - 128 < 128, (⟨128 + k.val - 128, h⟩ : Fin 128) = k := fun h => Fin.ext (by show 128 + k.val - 128 = k.val; omega)
  unfold actV coordAct
  rw [hs_eq, hd_eq, we2_arg]
  refine act_eq _ _ _ _ _ _ _ _ _ _ _ _ _ _ _ _ _ _ _ _ (dij_at m ρ c e) (we1_at m ρ c) (be1_at m ρ c) (be2_at m ρ c)
    (fun a => (w1s_at m ρ c a _).trans ((dif_neg hk).trans ?_)) (fun a => (w1d_at m ρ c a _).trans ((dif_neg hk).trans ?_))
    (fun a => (w1e_at m ρ c a _).trans ((dif_neg hk).trans ?_)) ((b1_at m ρ c _).trans ((dif_neg hk).trans ?_))
  all_goals simp only [hf]

/-- The first output array of the first region. -/
theorem m_ref (e : Fin 320000) (k : Fin 128) : mArr (V17 m ρ) c (ix2 e k) = nodeAct m c e k := act_node m ρ c e k

/-- The floor under the edge length is positive, so no clamped length is zero. -/
theorem clamp_ne (s : EReal) : clampLen s ≠ 0 := by
  have h : (0 : EReal) < Ideal.ofBits .f32 0x322BCC77#32 := by
    rw [show Ideal.ofBits .f32 0x322BCC77#32 = (((2 ^ 23 + 2870391 : ℕ) * (2 : ℝ) ^ ((100 : Int) - 127 - 23) : ℝ) : EReal) from by
      simp [Ideal.ofBits, Ideal.ieee]]
    exact EReal.coe_pos.2 (by positivity)
  exact (lt_of_lt_of_le h (le_max_right _ _)).ne'

/-- The kernel's difference of positions in one of the first three columns is the reference's. -/
theorem diff_ref (e : Fin 320000) (q : Fin 3) : diff (V17 m ρ c main_v26) (V17 m ρ c main_v27) e ⟨q.val, by omega⟩
    = val_main_v37 (F := Ideal) (a_x m c) (a_ei m c) (ix2 e q) := by
  obtain ⟨o, hk, hr⟩ := xs_row m ρ c e
  obtain ⟨o', hk', hr'⟩ := xd_row m ρ c e
  have hp : ∀ b, xpad m c (ix2 b (⟨q.val, by omega⟩ : Fin 16)) = a_x m c (ix2 b q) := fun b =>
    (xpad_at m c b _).trans (dif_pos q.isLt)
  rw [val_main_v37_apply, hr, hr']
  unfold diff
  rw [hk, hk']
  simp only [hp]
  rfl

/-- The squared edge lengths agree: the columns past the third add zero, or an infinite square is already there. -/
theorem len_ref (e : Fin 320000) :
    ∑ x : Fin 16, diff (V17 m ρ c main_v26) (V17 m ρ c main_v27) e x * diff (V17 m ρ c main_v26) (V17 m ρ c main_v27) e x
      = 0 + ∑ k : Fin 3, val_main_v37 (F := Ideal) (a_x m c) (a_ei m c) (ix2 e k) * val_main_v37 (F := Ideal) (a_x m c) (a_ei m c) (ix2 e k) := by
  simp only [← diff_ref m ρ c e, zero_add]
  obtain ⟨o, hk, -⟩ := xs_row m ρ c e
  obtain ⟨o', hk', -⟩ := xd_row m ρ c e
  have hd : ∀ x, diff (V17 m ρ c main_v26) (V17 m ρ c main_v27) e x
      = (o.elim (⊥ : EReal) fun b => xpad m c (ix2 b x)) - o'.elim (⊥ : EReal) fun b => xpad m c (ix2 b x) := fun x => by
    unfold diff; rw [hk, hk']
  generalize diff (V17 m ρ c main_v26) (V17 m ρ c main_v27) e = f at hd ⊢
  have top : (∀ x, f x = ⊥ ∨ f x = ⊤) → ∑ x : Fin 16, f x * f x = ∑ k : Fin 3, f ⟨k.val, by omega⟩ * f ⟨k.val, by omega⟩ := fun hf => by
    have h2 : ∀ x, f x * f x = ⊤ := fun x => by rcases hf x with h | h <;> rw [h] <;> simp
    rw [sum_top _ (fun x => sq_nonneg' (f x)) 0 (h2 0), sum_top _ (fun x => sq_nonneg' (f _)) 0 (h2 _)]
  cases o with
  | none =>
    refine top fun x => .inl ?_
    rw [hd]
    simp
  | some b =>
    cases o' with
    | none =>
      refine top fun x => ?_
      rw [hd]
      have hy : ∀ y : EReal, y - ⊥ = ⊥ ∨ y - ⊥ = ⊤ := fun y => by
        induction y with
        | bot => left; simp
        | top => right; simp
        | coe y => right; simp
      exact hy _
    | some b' =>
      have h0 : ∀ x : Fin 16, ¬x.val < 3 → f x = 0 := fun x hx => by
        rw [hd]
        show xpad m c (ix2 b x) - xpad m c (ix2 b' x) = 0
        rw [(xpad_at m c b x).trans (dif_neg hx), (xpad_at m c b' x).trans (dif_neg hx)]
        simp
      have hs := Fin.sum_univ_add (a := 3) (b := 13) fun x => f x * f x
      refine hs.trans ?_
      rw [Finset.sum_eq_zero (s := Finset.univ) (f := fun i : Fin 13 => f (Fin.natAdd 3 i) * f (Fin.natAdd 3 i)), add_zero]
      · rfl
      · intro i _
        rw [h0 _ (by simp), mul_zero]

/-- The second output array of the first region in its first three columns: the reference's displacement. -/
theorem cu_match (e : Fin 320000) (q : Fin 3) : cuArr (V17 m ρ) c (ix2 e (⟨q.val, by omega⟩ : Fin 16))
    = val_main_v44 (F := Ideal) (a_h m c) (a_x m c) (a_ei m c) (a_dij m c) (a_We1 m c) (a_be1 m c) (a_We2 m c) (a_be2 m c)
        (a_Wc1 m c) (a_bc1 m c) (a_Wc2 m c) (ix2 e q) := by
  rw [cu_ref]
  show cu (actV (V17 m ρ) c) (V17 m ρ c main_arg14) (V17 m ρ c main_v26) (V17 m ρ c main_v27) e ⟨q.val, _⟩ = _
  unfold cu
  have hq : IntOp.cmpi .eq (BitVec.ofNat 32 q.val) 3#32 ≠ 1#1 := by revert q; decide
  refine (if_neg hq).trans ?_
  rw [diff_ref, len_ref, div_mul_comm' _ _ _ (clamp_ne _), wc2_arg]
  have hA : ∀ k : Fin 128, actV (V17 m ρ) c e ⟨128 + k.val, by omega⟩ * a_Wc2 m c (ix2 k 0)
      = coordAct m c e k * a_Wc2 m c (ix2 k 0) := fun k => by rw [act_coord]
  rw [Finset.sum_congr rfl fun k _ => hA k]
  unfold coordAct
  rfl

/-- The second output array of the first region in column 3: one. -/
theorem cu_one (e : Fin 320000) : cuArr (V17 m ρ) c (ix2 e (3 : Fin 16)) = (1 : EReal) := by
  show cu (actV (V17 m ρ) c) (V17 m ρ c main_arg14) (V17 m ρ c main_v26) (V17 m ρ c main_v27) e 3 = _
  unfold cu
  exact if_pos (by decide)

end Cert.KernelIdeal.Own

end
-- ==== Proof.Ops.lean ====
module

public import Idealize.ShloMosaic.Lib.Routing.Ops
public import Idealize.ShloMosaic.Lib.Routing.OpsPair
public import Idealize.ShloMosaic.Lib.Pointwise

/-! A sum scatter of whole rows, read at an entry. -/

@[expose] public section
set_option maxRecDepth 16384
noncomputable section
open Idealize.ShloMosaic
namespace Cert.KernelIdeal.Own

variable {N C E : Nat}

/-- Row `e` of the updates, at column `c`, lands at `(n, c')` exactly when the index word of `e`, read signed, is
    `n` and the columns agree. -/
theorem lands_row (d : ScatterDims ⟨2, ![N, C]⟩ ⟨2, ![E, 1]⟩ ⟨2, ![E, C]⟩) (hu : d.updateWindowDims = [1])
    (hi : d.insertedWindowDims = [0]) (hs : d.scatterDimsToOperandDims = [0]) (hv : d.indexVectorDim = 1)
    (idx : IVec ⟨2, ![E, 1]⟩ 32) (e : Fin E) (c : Fin C) (n : Fin N) (c' : Fin C) :
    d.resultIdx? (ix2 e c) idx = some (ix2 n c') ↔ (idx (ix2 e 0)).toInt = (n.val : Int) ∧ c = c' := by
  have hm : (0 : Fin 2) ∈ d.scatterDimsToOperandDims := by rw [hs]; exact List.mem_singleton.2 rfl
  have hkept : d.sKept = [1] := by
    show (⟨2, ![N, C]⟩ : Shape).kept d.insertedWindowDims = _
    rw [hi]; rfl
  have hw0 : d.window (ix2 e c) 0 = 0 := by
    unfold ScatterDims.window
    rw [dif_neg (by rw [hkept]; exact fun h => absurd (List.mem_singleton.1 h) (by decide : (0 : Fin 2) ≠ 1))]
  have e1 : ∀ X : Fin 2, X = 1 → (ix2 e c X).val = c.val := fun X h => by subst h; rfl
  have hk1 : ∀ k ∈ d.updateWindowDims, k = (1 : Fin 2) := fun k hk => by rw [hu] at hk; exact List.mem_singleton.1 hk
  have hw1 : d.window (ix2 e c) 1 = c.val := by
    unfold ScatterDims.window
    rw [dif_pos (by rw [hkept]; exact List.mem_singleton.2 rfl)]
    exact e1 _ (hk1 _ (List.getElem_mem _))
  have hst1 : d.start (ix2 e c) idx 1 = 0 := by
    unfold ScatterDims.start
    rw [dif_neg fun h => by rw [hs] at h; exact absurd (List.mem_singleton.1 h) (by decide : (1 : Fin 2) ≠ 0)]
  have e0 : ∀ X : Fin 2, X = 0 → (ix2 e c X).val = e.val := fun X h => by subst h; rfl
  have hk0 : ∀ k ∈ d.uScatter, k = (0 : Fin 2) := fun k hk => by
    have hk' : k ∉ d.updateWindowDims := of_decide_eq_true (List.mem_filter.1 hk).2
    rw [hu] at hk'
    have h1 : k.val ≠ 1 := fun q => hk' (List.mem_singleton.2 (Fin.ext q))
    have h2 : k.val < 2 := k.isLt
    exact Fin.ext (by show k.val = 0; omega)
  have hst0 : d.start (ix2 e c) idx 0 = (idx (ix2 e 0)).toInt := by
    unfold ScatterDims.start
    rw [dif_pos hm]
    have hsi : d.siIdx (ix2 e c) ⟨d.scatterDimsToOperandDims.idxOf 0, List.idxOf_lt_length_iff.2 hm⟩ = ix2 e (0 : Fin 1) := by
      funext b'
      apply Fin.ext
      match b' with
      | ⟨0, _⟩ =>
        unfold ScatterDims.siIdx
        rw [dif_neg (by rw [hv]; exact Nat.zero_ne_one)]
        unfold ScatterDims.siCoord
        simp only [Fin.val_cast]
        exact e0 _ (hk0 _ (List.getElem_mem _))
      | ⟨1, _⟩ =>
        unfold ScatterDims.siIdx
        rw [dif_pos (by rw [hv])]
        show List.idxOf (0 : Fin 2) d.scatterDimsToOperandDims = 0
        rw [hs]; simp
    rw [hsi]
  refine (Routing.resultIdx?_ix2 d (ix2 e c) idx n c').trans ?_
  rw [hst0, hst1, hw0, hw1, Fin.ext_iff]
  omega

/-- **A sum scatter of rows, read at an entry**: the operand's entry plus, over the rows whose index word, read
    signed, is this row's number, their entries in this column. -/
theorem scatterAdd_row (d : ScatterDims ⟨2, ![N, C]⟩ ⟨2, ![E, 1]⟩ ⟨2, ![E, C]⟩) (hu : d.updateWindowDims = [1])
    (hi : d.insertedWindowDims = [0]) (hs : d.scatterDimsToOperandDims = [0]) (hv : d.indexVectorDim = 1)
    (x : FVec Ideal ⟨2, ![N, C]⟩ .f32) (idx : IVec ⟨2, ![E, 1]⟩ 32) (upd : FVec Ideal ⟨2, ![E, C]⟩ .f32)
    (n : Fin N) (c : Fin C) :
    Host.scatterAdd d x idx upd (ix2 n c)
      = x (ix2 n c) + ∑ e : Fin E, (if (idx (ix2 e 0)).toInt = (n.val : Int) then upd (ix2 e c) else (0 : EReal)) := by
  show x (ix2 n c) + ∑ j ∈ Finset.univ.filter (fun j => d.resultIdx? j idx = some (ix2 n c)), upd j = _
  congr 1
  rw [Finset.sum_filter, sum_idx2]
  refine Finset.sum_congr rfl fun e _ => ?_
  rw [Finset.sum_eq_single c]
  · simp only [lands_row d hu hi hs hv, and_true]
  · intro c' _ hc
    rw [if_neg]
    rw [lands_row d hu hi hs hv]
    exact fun h => hc h.2
  · intro h; exact absurd (Finset.mem_univ c) h

end Cert.KernelIdeal.Own

end
-- ==== Proof.Segment.lean ====
module

public import proofs.«01_k».proof.Proof.Match
public import proofs.«01_k».proof.Proof.Ops

/-! The host operations between the two regions: for each half of the edges, the sum over the edges that arrive at a
    node of the first region's rows. -/

@[expose] public section
set_option maxRecDepth 16384
noncomputable section
open Idealize.ShloMosaic Idealize.ShloMosaic.TcCoe Idealize.SL.Sem
namespace Cert.KernelIdeal.Own
open Cert.KernelIdeal Cert.KernelIdeal.Gen

/-- The rows of a half of the edges, starting at row `off`, added up at the node each arrives at. -/
theorem half_sum {C : Nat} (d : ScatterDims ⟨2, ![10000, C]⟩ ⟨2, ![160000, 1]⟩ ⟨2, ![160000, C]⟩) (hu : d.updateWindowDims = [1])
    (hi : d.insertedWindowDims = [0]) (hs : d.scatterDimsToOperandDims = [0]) (hv : d.indexVectorDim = 1) (off : Nat) (ho : off + 160000 ≤ 320000)
    (hz : (⟨0, ![]⟩ : Shape).BroadcastsInDim ⟨2, ![10000, C]⟩ ![])
    (hb : (⟨1, ![160000]⟩ : Shape).BroadcastsInDim ⟨2, ![160000, 1]⟩ ![0])
    (h1 : (⟨1, ![320000]⟩ : Shape).Slices ![off] ⟨1, ![160000]⟩)
    (h2 : (⟨2, ![320000, C]⟩ : Shape).Slices ![off, 0] ⟨2, ![160000, C]⟩)
    (dst : IVec ⟨1, ![320000]⟩ 32) (A : FVec Ideal ⟨2, ![320000, C]⟩ .f32) (n : Fin 10000) (k : Fin C) :
    Host.scatterAdd d (broadcastInDim ⟨2, ![10000, C]⟩ ![] hz (constant (F := Ideal) ⟨0, ![]⟩ .f32 0x00000000#32))
      (broadcastInDim ⟨2, ![160000, 1]⟩ ![0] hb (extractStridedSlice ⟨1, ![160000]⟩ ![off] dst h1))
      (extractStridedSlice ⟨2, ![160000, C]⟩ ![off, 0] A h2) (ix2 n k)
      = ∑ e : Fin 160000, (if (dst (ix1 (⟨off + e.val, by omega⟩ : Fin 320000))).toInt = (n.val : Int)
          then A (ix2 (⟨off + e.val, by omega⟩ : Fin 320000) k) else (0 : EReal)) := by
  rw [scatterAdd_row d hu hi hs hv]
  have h0 : broadcastInDim ⟨2, ![10000, C]⟩ ![] hz (constant (F := Ideal) ⟨0, ![]⟩ .f32 0x00000000#32) (ix2 n k) = (0 : EReal) :=
    Ideal.ofBits_zero_f32
  rw [h0, zero_add]
  refine Finset.sum_congr rfl fun e _ => ?_
  have hd : broadcastInDim ⟨2, ![160000, 1]⟩ ![0] hb (extractStridedSlice ⟨1, ![160000]⟩ ![off] dst h1) (ix2 e 0)
      = dst (ix1 (⟨off + e.val, by omega⟩ : Fin 320000)) := by
    unfold broadcastInDim extractStridedSlice
    refine congrArg dst (funext fun a => ?_)
    match a with
    | ⟨0, _⟩ => rfl
  have hA : extractStridedSlice ⟨2, ![160000, C]⟩ ![off, 0] A h2 (ix2 e k) = A (ix2 (⟨off + e.val, by omega⟩ : Fin 320000) k) := by
    unfold extractStridedSlice
    refine congrArg A (funext fun a => Fin.ext ?_)
    match a with
    | ⟨0, _⟩ => rfl
    | ⟨1, _⟩ => exact Nat.zero_add _
  rw [hd, hA]

variable (m : (ℓ : Loc nD τ sig) → Buf (Elt Ideal) ℓ) (ρ : Dev nD → PrngReg) (c : Dev nD)

/-- The node an edge arrives at, as a signed number. -/
def dstOf (e : Fin 320000) : Int := (Cert.ReferenceIdeal.Read.val_main_v3 (F := Ideal) (a_ei m c) (ix1 e)).toInt

/-- After the first region the receivers' row numbers are the reference's. -/
theorem dst18 : W18 m ρ c (Proc.devRef .tc main_v3) = Cert.ReferenceIdeal.Read.val_main_v3 (F := Ideal) (a_ei m c) :=
  (W18_of_ne m ρ c main_v3 (by decide)).trans (dst_eq m ρ c)

/-- After the first region its first output array. -/
theorem m18 : W18 m ρ c (Proc.devRef .tc main_v29_0) = mArr (V17 m ρ) c :=
  (W18_arr m ρ c 14).trans (m_final (V17 m ρ) c)

/-- After the first region its second output array. -/
theorem cu18 : W18 m ρ c (Proc.devRef .tc main_v29_1) = cuArr (V17 m ρ) c :=
  (W18_arr m ρ c 15).trans (cu_final (V17 m ρ) c)

/-- The activations of the first half of the edges, summed per node. -/
theorem p0_at (n : Fin 10000) (k : Fin 128) : (V19 m ρ c main_v34 : FVec Ideal S10000x128 .f32) (ix2 n k)
    = ∑ e : Fin 160000, (if dstOf m c ⟨0 + e.val, by omega⟩ = (n.val : Int)
        then mArr (V17 m ρ) c (ix2 (⟨0 + e.val, by omega⟩ : Fin 320000) k) else (0 : EReal)) := by
  have h : V19 m ρ c main_v34 = Host.scatterAdd scatter_S10000x128_S160000x1_S160000x128_1_0_0_1
      (broadcastInDim S10000x128 ![] bcast_S_S10000x128 (constant (F := Ideal) S_ .f32 0x00000000#32))
      (broadcastInDim S160000x1 ![0] bcast_S160000_S160000x1_0 (extractStridedSlice S160000 ![0]
        (W18 m ρ c (Proc.devRef .tc main_v3) : IVec S320000 32) slices_S320000_S160000_0))
      (extractStridedSlice S160000x128 ![0, 0] (W18 m ρ c (Proc.devRef .tc main_v29_0) : FVec Ideal S320000x128 .f32) slices_S320000x128_S160000x128_0_0) := by
    show StableHlo.after hostOps1 (W18 m ρ c) (Proc.devRef .tc main_v34) = _
    generalize W18 m ρ c = σ
    entry_read
    rfl
  rw [h, dst18, m18]
  exact half_sum _ rfl rfl rfl rfl 0 (by omega) _ _ _ _ _ _ n k

/-- The activations of the second half of the edges, summed per node. -/
theorem p1_at (n : Fin 10000) (k : Fin 128) : (V19 m ρ c main_v39 : FVec Ideal S10000x128 .f32) (ix2 n k)
    = ∑ e : Fin 160000, (if dstOf m c ⟨160000 + e.val, by omega⟩ = (n.val : Int)
        then mArr (V17 m ρ) c (ix2 (⟨160000 + e.val, by omega⟩ : Fin 320000) k) else (0 : EReal)) := by
  have h : V19 m ρ c main_v39 = Host.scatterAdd scatter_S10000x128_S160000x1_S160000x128_1_0_0_1
      (broadcastInDim S10000x128 ![] bcast_S_S10000x128 (constant (F := Ideal) S_ .f32 0x00000000#32))
      (broadcastInDim S160000x1 ![0] bcast_S160000_S160000x1_0 (extractStridedSlice S160000 ![160000]
        (W18 m ρ c (Proc.devRef .tc main_v3) : IVec S320000 32) slices_S320000_S160000_160000))
      (extractStridedSlice S160000x128 ![160000, 0] (W18 m ρ c (Proc.devRef .tc main_v29_0) : FVec Ideal S320000x128 .f32) slices_S320000x128_S160000x128_160000_0) := by
    show StableHlo.after hostOps1 (W18 m ρ c) (Proc.devRef .tc main_v39) = _
    generalize W18 m ρ c = σ
    entry_read
    rfl
  rw [h, dst18, m18]
  exact half_sum _ rfl rfl rfl rfl 160000 (by omega) _ _ _ _ _ _ n k

/-- The displacements of the first half of the edges, summed per node. -/
theorem q0_at (n : Fin 10000) (k : Fin 16) : (V19 m ρ c main_v44 : FVec Ideal S10000x16 .f32) (ix2 n k)
    = ∑ e : Fin 160000, (if dstOf m c ⟨0 + e.val, by omega⟩ = (n.val : Int)
        then cuArr (V17 m ρ) c (ix2 (⟨0 + e.val, by omega⟩ : Fin 320000) k) else (0 : EReal)) := by
  have h : V19 m ρ c main_v44 = Host.scatterAdd scatter_S10000x16_S160000x1_S160000x16_1_0_0_1
      (broadcastInDim S10000x16 ![] bcast_S_S10000x16 (constant (F := Ideal) S_ .f32 0x00000000#32))
      (broadcastInDim S160000x1 ![0] bcast_S160000_S160000x1_0 (extractStridedSlice S160000 ![0]
        (W18 m ρ c (Proc.devRef .tc main_v3) : IVec S320000 32) slices_S320000_S160000_0))
      (extractStridedSlice S160000x16 ![0, 0] (W18 m ρ c (Proc.devRef .tc main_v29_1) : FVec Ideal S320000x16 .f32) slices_S320000x16_S160000x16_0_0) := by
    show StableHlo.after hostOps1 (W18 m ρ c) (Proc.devRef .tc main_v44) = _
    generalize W18 m ρ c = σ
    entry_read
    rfl
  rw [h, dst18, cu18]
  exact half_sum _ rfl rfl rfl rfl 0 (by omega) _ _ _ _ _ _ n k

/-- The displacements of the second half of the edges, summed per node. -/
theorem q1_at (n : Fin 10000) (k : Fin 16) : (V19 m ρ c main_v49 : FVec Ideal S10000x16 .f32) (ix2 n k)
    = ∑ e : Fin 160000, (if dstOf m c ⟨160000 + e.val, by omega⟩ = (n.val : Int)
        then cuArr (V17 m ρ) c (ix2 (⟨160000 + e.val, by omega⟩ : Fin 320000) k) else (0 : EReal)) := by
  have h : V19 m ρ c main_v49 = Host.scatterAdd scatter_S10000x16_S160000x1_S160000x16_1_0_0_1
      (broadcastInDim S10000x16 ![] bcast_S_S10000x16 (constant (F := Ideal) S_ .f32 0x00000000#32))
      (broadcastInDim S160000x1 ![0] bcast_S160000_S160000x1_0 (extractStridedSlice S160000 ![160000]
        (W18 m ρ c (Proc.devRef .tc main_v3) : IVec S320000 32) slices_S320000_S160000_160000))
      (extractStridedSlice S160000x16 ![160000, 0] (W18 m ρ c (Proc.devRef .tc main_v29_1) : FVec Ideal S320000x16 .f32) slices_S320000x16_S160000x16_160000_0) := by
    show StableHlo.after hostOps1 (W18 m ρ c) (Proc.devRef .tc main_v49) = _
    generalize W18 m ρ c = σ
    entry_read
    rfl
  rw [h, dst18, cu18]
  exact half_sum _ rfl rfl rfl rfl 160000 (by omega) _ _ _ _ _ _ n k

end Cert.KernelIdeal.Own

end
-- ==== Proof.Node.lean ====
module

public import proofs.«01_k».proof.Proof.Gen.KernelIdeal.Frame
public import Idealize.ShloMosaic.Lib.Pipeline.ValueKit
public import Idealize.ShloMosaic.Lib.Claim

/-! The second region: what its two output arrays hold after the last grid point, given by the arrays it reads. -/

@[expose] public section
set_option maxRecDepth 16384
noncomputable section
open Idealize.ShloMosaic Idealize.ShloMosaic.TcCoe Idealize.SL.Sem
namespace Cert.KernelIdeal.Own
open Cert.KernelIdeal Cert.KernelIdeal.Gen
variable (V : (c : Dev nD) → (b : Ref sig .tc) → Buf (Elt Ideal) ((c : Thread nD τ).loc b))

/-- A node's new features: the old ones, plus the summed activations through the second layer, plus the number of
    incoming edges (column 3 of the summed displacements) times the bias. -/
def nodeOut (h p0 p1 : FVec Ideal S10000x128 .f32) (q0 q1 : FVec Ideal S10000x16 .f32) (Wn2 : FVec Ideal S128x128 .f32)
    (bn2 : FVec Ideal S8x128 .f32) : FVec Ideal S10000x128 .f32 := fun i =>
  (h i + ∑ k : Fin 128, (p0 (ix2 (show Fin 10000 from i 0) k) + p1 (ix2 (show Fin 10000 from i 0) k)) * Wn2 (ix2 k (show Fin 128 from i 1)))
    + (q0 (ix2 (show Fin 10000 from i 0) 3) + q1 (ix2 (show Fin 10000 from i 0) 3)) * bn2 (ix2 0 (show Fin 128 from i 1))

/-- A node's new position: the old one plus the summed displacements. -/
def posOut (x : FVec Ideal S10000x3 .f32) (q0 q1 : FVec Ideal S10000x16 .f32) : FVec Ideal S10000x3 .f32 := fun i =>
  x i + (q0 (ix2 (show Fin 10000 from i 0) (⟨(show Fin 3 from i 1).val, by omega⟩ : Fin 16))
    + q1 (ix2 (show Fin 10000 from i 0) (⟨(show Fin 3 from i 1).val, by omega⟩ : Fin 16)))

/-- Every window's block index at every grid point: the node windows move one block per point, the weights stay. -/
theorem node_idx : ∀ t : Fin cfg1.N, win1_0.index t = ![t.val, 0] ∧ win1_1.index t = ![t.val, 0] ∧ win1_2.index t = ![t.val, 0]
    ∧ win1_3.index t = ![t.val, 0] ∧ win1_4.index t = ![t.val, 0] ∧ win1_5.index t = ![t.val, 0] ∧ win1_6.index t = ![0, 0]
    ∧ win1_7.index t = ![0, 0] ∧ win1_8.index t = ![t.val, 0] ∧ win1_9.index t = ![t.val, 0] :=
  (by decide +kernel : ∀ t : Fin grid1.N, _)

/-- After the region the first output array holds the new features. -/
theorem h_final (c : Dev nD) : (dat1 V c).arrAt 8 cfg1.N
    = nodeOut (V c main_arg0) (V c main_v34) (V c main_v39) (V c main_v44) (V c main_v49) (V c main_arg10) (V c main_v22) := by
  refine (dat1 V c).arrAt_eq_of_covers 8 _ (by decide +kernel) fun t _ y => ?_
  blk_simp
  rw [after1_8]
  frame_out
  pointwise [k1_pay2, k1_pay1, nodeOut]
  blk_point [iblk1, node_idx t]

/-- After the region the second output array holds the new positions. -/
theorem x_final (c : Dev nD) : (dat1 V c).arrAt 9 cfg1.N = posOut (V c main_arg1) (V c main_v44) (V c main_v49) := by
  refine (dat1 V c).arrAt_eq_of_covers 9 _ (by decide +kernel) fun t _ y => ?_
  blk_simp
  rw [after1_9]
  frame_out
  pointwise [k1_pay3, k1_pay1, posOut]
  blk_point [iblk1, node_idx t]

end Cert.KernelIdeal.Own

end
-- ==== Proof.Final.lean ====
module

public import proofs.«01_k».proof.Proof.Segment
public import proofs.«01_k».proof.Proof.Node

/-! The kernel's two results are the reference's two results, over the kernel's arguments. -/

@[expose] public section
set_option maxRecDepth 16384
noncomputable section
open Idealize.ShloMosaic Idealize.ShloMosaic.TcCoe Idealize.SL.Sem
namespace Cert.KernelIdeal.Own
open Cert.KernelIdeal Cert.KernelIdeal.Gen
open Cert.ReferenceIdeal.Read

/-- Applying a finite weight after summing selected rows, and counting the selected rows times a bias, is summing the
    selected rows with the weight and the bias applied to each. -/
theorem sum_then_apply {E K : Nat} (p : Fin E → Prop) [DecidablePred p] (s : Fin E → Fin K → EReal) (hs : ∀ e k, s e k ≠ ⊥)
    (w : Fin K → EReal) (hw : ∀ k, ∃ r : ℝ, w k = (r : EReal)) (b h : EReal) :
    (h + ∑ k, (∑ e, if p e then s e k else 0) * w k) + (∑ e, if p e then (1 : EReal) else 0) * b
      = h + (0 + ∑ e, if p e then (∑ k, s e k * w k) + b else 0) := by
  have h1 : ∑ k, (∑ e, if p e then s e k else 0) * w k = ∑ e, if p e then ∑ k, s e k * w k else 0 := by
    have hk : ∀ k, (∑ e, if p e then s e k else 0) * w k = ∑ e, if p e then s e k * w k else 0 := fun k => by
      obtain ⟨r, hr⟩ := hw k
      rw [hr, sum_mul_fin _ _ (fun e _ => by
        show (if p e then s e k else 0) ≠ ⊥
        split
        · exact hs e k
        · exact EReal.zero_ne_bot)]
      refine Finset.sum_congr rfl fun e _ => ?_
      split
      · rfl
      · exact zero_mul _
    rw [Finset.sum_congr rfl fun k _ => hk k, Finset.sum_comm]
    refine Finset.sum_congr rfl fun e _ => ?_
    split
    · rfl
    · exact Finset.sum_const_zero
  rw [h1, count_mul, zero_add, add_assoc, ← Finset.sum_add_distrib]
  refine congrArg (h + ·) (Finset.sum_congr rfl fun e _ => ?_)
  split
  · rfl
  · exact add_zero 0

/-- A sum over the edges is the sum over its first half plus the sum over its second half. -/
theorem sum_halves (f : Fin 320000 → EReal) :
    (∑ e : Fin 160000, f ⟨0 + e.val, by omega⟩) + ∑ e : Fin 160000, f ⟨160000 + e.val, by omega⟩ = ∑ e, f e := by
  refine Eq.trans ?_ (Fin.sum_univ_add (a := 160000) (b := 160000) f).symm
  refine congrArg₂ (· + ·) ?_ ?_
  · exact Finset.sum_congr rfl fun e _ => congrArg f (Fin.ext (Nat.zero_add _))
  · exact Finset.sum_congr rfl fun e _ => congrArg f (Fin.ext rfl)

variable (m : (ℓ : Loc nD τ sig) → Buf (Elt Ideal) ℓ) (ρ : Dev nD → PrngReg) (c : Dev nD)

/-- The four sums over half the edges that the second region reads. -/
def P0 : FVec Ideal S10000x128 .f32 := V19 m ρ c main_v34
@[inherit_doc P0] def P1 : FVec Ideal S10000x128 .f32 := V19 m ρ c main_v39
@[inherit_doc P0] def Q0 : FVec Ideal S10000x16 .f32 := V19 m ρ c main_v44
@[inherit_doc P0] def Q1 : FVec Ideal S10000x16 .f32 := V19 m ρ c main_v49
/-- The padded bias row the second region reads. -/
def B2 : FVec Ideal S8x128 .f32 := V19 m ρ c main_v22

/-- The activations arriving at a node, over all edges. -/
theorem p_sum (n : Fin 10000) (k : Fin 128) :
    P0 m ρ c (ix2 n k) + P1 m ρ c (ix2 n k)
      = ∑ e : Fin 320000, if dstOf m c e = (n.val : Int) then nodeAct m c e k else (0 : EReal) := by
  refine (congrArg₂ (fun a b : EReal => a + b) (p0_at m ρ c n k) (p1_at m ρ c n k)).trans ?_
  simp only [m_ref]
  exact sum_halves fun e => if dstOf m c e = (n.val : Int) then nodeAct m c e k else (0 : EReal)

/-- The displacement rows arriving at a node, over all edges. -/
theorem q_sum (n : Fin 10000) (k : Fin 16) :
    Q0 m ρ c (ix2 n k) + Q1 m ρ c (ix2 n k)
      = ∑ e : Fin 320000, if dstOf m c e = (n.val : Int) then cuArr (V17 m ρ) c (ix2 e k) else (0 : EReal) := by
  refine (congrArg₂ (fun a b : EReal => a + b) (q0_at m ρ c n k) (q1_at m ρ c n k)).trans ?_
  exact sum_halves fun e => if dstOf m c e = (n.val : Int) then cuArr (V17 m ρ) c (ix2 e k) else (0 : EReal)

/-- The reference's row numbers for its sum over edges are the receivers'. -/
theorem idx_ref (ei : IVec S2x320000 32) (e : Fin 320000) : val_main_v27 (F := Ideal) ei (ix2 e 0) = val_main_v3 (F := Ideal) ei (ix1 e) := by
  rw [val_main_v27_apply]
  exact congrArg _ (funext fun a => by match a with | ⟨0, _⟩ => rfl)

/-- The same for the sum of displacements. -/
theorem idx_ref' (ei : IVec S2x320000 32) (e : Fin 320000) : val_main_v46 (F := Ideal) ei (ix2 e 0) = val_main_v3 (F := Ideal) ei (ix1 e) := by
  rw [val_main_v46_apply]
  exact congrArg _ (funext fun a => by match a with | ⟨0, _⟩ => rfl)

/-- The padded node bias the second region reads. -/
theorem bn2_19 (k : Fin 128) : B2 m ρ c (ix2 0 k) = a_bn2 m c (ix1 k) := by
  have h : V19 m ρ c main_v22 = V17 m ρ c main_v22 :=
    (W19_of m ρ c main_v22 (by decide)).trans (W18_of_ne m ρ c main_v22 (by decide))
  unfold B2
  rw [h]
  exact bn2_at m ρ c k

/-- **The new features**: where the node weight is finite, the kernel's first result is the reference's. -/
theorem h_value (hw : ∀ k j : Fin 128, ∃ r : ℝ, a_Wn2 m c (ix2 k j) = (r : EReal)) :
    W20 m ρ c (Proc.devRef .tc main_v50_0)
      = val_main_v48 (F := Ideal) (a_h m c) (a_ei m c) (a_dij m c) (a_We1 m c) (a_be1 m c) (a_We2 m c) (a_be2 m c)
          (a_Wn1 m c) (a_bn1 m c) (a_Wn2 m c) (a_bn2 m c) := by
  refine (W20_arr m ρ c 8).trans ((h_final (V19 m ρ) c).trans ?_)
  have e0 : V19 m ρ c main_arg0 = a_h m c := W19_args m ρ c main_arg0 (by decide)
  have e10 : V19 m ρ c main_arg10 = a_Wn2 m c := W19_args m ρ c main_arg10 (by decide)
  rw [e0, e10]
  funext i
  obtain ⟨n, j, rfl⟩ : ∃ (n : Fin 10000) (j : Fin 128), i = ix2 n j := ⟨i 0, i 1, funext fun a => by match a with | ⟨0, _⟩ => rfl | ⟨1, _⟩ => rfl⟩
  show (a_h m c (ix2 n j) + ∑ k : Fin 128, (P0 m ρ c (ix2 n k)
      + P1 m ρ c (ix2 n k)) * a_Wn2 m c (ix2 k j))
    + (Q0 m ρ c (ix2 n 3) + Q1 m ρ c (ix2 n 3))
      * B2 m ρ c (ix2 0 j) = _
  rw [q_sum, bn2_19]
  simp only [p_sum, cu_one]
  rw [val_main_v48_apply, Ideal.addf_def]
  unfold val_main_v28
  rw [scatterAdd_row _ rfl rfl rfl rfl]
  simp only [idx_ref, upd_ref]
  have h0 : val_main_v26 (F := Ideal) (ix2 n j) = (0 : EReal) := Ideal.ofBits_zero_f32
  rw [h0]
  exact sum_then_apply (fun e => dstOf m c e = (n.val : Int)) (fun e k => nodeAct m c e k) (fun e k => silu_ne_bot _)
    (fun k => a_Wn2 m c (ix2 k j)) (fun k => hw k j) _ _

/-- **The new positions**: the kernel's second result is the reference's. -/
theorem x_value :
    W20 m ρ c (Proc.devRef .tc main_v50_1)
      = val_main_v49 (F := Ideal) (a_h m c) (a_x m c) (a_ei m c) (a_dij m c) (a_We1 m c) (a_be1 m c) (a_We2 m c) (a_be2 m c)
          (a_Wc1 m c) (a_bc1 m c) (a_Wc2 m c) := by
  refine (W20_arr m ρ c 9).trans ((x_final (V19 m ρ) c).trans ?_)
  have e1 : V19 m ρ c main_arg1 = a_x m c := W19_args m ρ c main_arg1 (by decide)
  rw [e1]
  funext i
  obtain ⟨n, q, rfl⟩ : ∃ (n : Fin 10000) (q : Fin 3), i = ix2 n q := ⟨i 0, i 1, funext fun a => by match a with | ⟨0, _⟩ => rfl | ⟨1, _⟩ => rfl⟩
  show a_x m c (ix2 n q) + (Q0 m ρ c (ix2 n (⟨q.val, by omega⟩ : Fin 16))
    + Q1 m ρ c (ix2 n (⟨q.val, by omega⟩ : Fin 16))) = _
  rw [q_sum]
  simp only [cu_match]
  rw [val_main_v49_apply, Ideal.addf_def]
  unfold val_main_v47
  rw [scatterAdd_row _ rfl rfl rfl rfl]
  simp only [idx_ref']
  have h0 : val_main_v45 (F := Ideal) (ix2 n q) = (0 : EReal) := Ideal.ofBits_zero_f32
  rw [h0, zero_add]
  rfl

end Cert.KernelIdeal.Own

end
-- ==== Proof.Value.lean ====
module

public import proofs.«01_k».proof.Defs
public import proofs.«01_k».proof.Proof.Run
public import proofs.«01_k».proof.Proof.Final
public import proofs.«01_k».proof.Proof.Gen.ReferenceIdeal.Run
public import proofs.«01_k».proof.Proof.Gen.ReferenceIdeal.Read

/-! The claim of equal results: the precondition read entry by entry, and both programs' runs at the common values. -/

@[expose] public section
set_option maxRecDepth 16384
noncomputable section
open Idealize.ShloMosaic Idealize.ShloMosaic.TcCoe Idealize.SL.Sem
namespace Cert.KernelIdeal.Own
open Cert.KernelIdeal Cert.KernelIdeal.Gen

/-- The one shape fact that the precondition's program states: a scalar broadcasts to the weight's shape. -/
theorem pre_facts : Cert.Pre_finite_wn2.Facts := ⟨by decide⟩

/-- An extended real whose absolute value compares below the word of plus infinity is a real number. -/
theorem real_of_abs_lt (x : EReal)
    (h : Ideal.cmp .olt (max x (-x)) (Ideal.ofBits .f32 0x7F800000#32) = 1#1) : ∃ r : ℝ, x = (r : EReal) := by
  have ht : Ideal.ofBits .f32 0x7F800000#32 = (⊤ : EReal) := by simp [Ideal.ofBits, Ideal.ieee]
  rw [ht] at h
  induction x using EReal.rec with
  | coe r => exact ⟨r, rfl⟩
  | bot => exact absurd h (by simp [Ideal.cmp])
  | top => exact absurd h (by simp [Ideal.cmp])

/-- Under the precondition every entry of the second node weight is a real number. -/
theorem finite_entries (m : (ℓ : Loc nD τ sig) → Buf (Elt Ideal) ℓ)
    (h : Cert.Pre_KernelIdeal_finite_wn2 (hPre_finite_wn2 := pre_facts) m) (c : Dev nD) (k j : Fin 128) :
    ∃ r : ℝ, a_Wn2 m c (ix2 k j) = (r : EReal) :=
  real_of_abs_lt _ (congrFun (h c) (ix2 k j))

/-- From memories that agree on the arguments, with a finite second node weight, the kernel and the reference both run,
    leave their arguments as they were, and end with the same node features and the same coordinates. -/
theorem algebraic : Cert.algebraic_KernelIdeal_ReferenceIdeal_pre_finite_wn2 (hKernelIdeal := Cert.KernelIdeal.Gen.facts)
    (hReferenceIdeal := Cert.ReferenceIdeal.Gen.facts) (hPre_finite_wn2 := pre_facts) := by
  intro m g m' g' hpre hag
  refine ⟨fun c => W20 m g c (Proc.devRef .tc main_v50_0), fun c => W20 m g c (Proc.devRef .tc main_v50_1), ?_, ?_⟩
  · exact (θ_run _ _ _).mono (fun r h c => ⟨h.1 c _ (mem_uc main_v50_0 (by decide)), h.1 c _ (mem_uc main_v50_1 (by decide)),
      (h.1 c _ (mem_uc main_arg0 (by decide))).trans (W20_main_arg0 m g c),
      (h.1 c _ (mem_uc main_arg1 (by decide))).trans (W20_main_arg1 m g c),
      (h.1 c _ (mem_uc main_arg2 (by decide))).trans (W20_main_arg2 m g c),
      (h.1 c _ (mem_uc main_arg3 (by decide))).trans (W20_main_arg3 m g c),
      (h.1 c _ (mem_uc main_arg4 (by decide))).trans (W20_main_arg4 m g c),
      (h.1 c _ (mem_uc main_arg5 (by decide))).trans (W20_main_arg5 m g c),
      (h.1 c _ (mem_uc main_arg6 (by decide))).trans (W20_main_arg6 m g c),
      (h.1 c _ (mem_uc main_arg7 (by decide))).trans (W20_main_arg7 m g c),
      (h.1 c _ (mem_uc main_arg8 (by decide))).trans (W20_main_arg8 m g c),
      (h.1 c _ (mem_uc main_arg9 (by decide))).trans (W20_main_arg9 m g c),
      (h.1 c _ (mem_uc main_arg10 (by decide))).trans (W20_main_arg10 m g c),
      (h.1 c _ (mem_uc main_arg11 (by decide))).trans (W20_main_arg11 m g c),
      (h.1 c _ (mem_uc main_arg12 (by decide))).trans (W20_main_arg12 m g c),
      (h.1 c _ (mem_uc main_arg13 (by decide))).trans (W20_main_arg13 m g c),
      (h.1 c _ (mem_uc main_arg14 (by decide))).trans (W20_main_arg14 m g c)⟩) (run m g)
  · refine (θ_run _ _ _).mono (fun r h c => ⟨(h c).1.trans ?_, (h c).2.1.trans ?_, (h c).2.2⟩)
      (Cert.ReferenceIdeal.Value.run (F := Ideal) m' g')
    · obtain ⟨e0, e1, e2, e3, e4, e5, e6, e7, e8, e9, e10, e11, e12, e13, e14⟩ := hag c
      refine (Cert.ReferenceIdeal.Read.val_main_v48_eq m' c).trans ?_
      rw [e0, e2, e3, e4, e5, e6, e7, e8, e9, e10, e11]
      exact (h_value m g c (finite_entries m hpre c)).symm
    · obtain ⟨e0, e1, e2, e3, e4, e5, e6, e7, e8, e9, e10, e11, e12, e13, e14⟩ := hag c
      refine (Cert.ReferenceIdeal.Read.val_main_v49_eq m' c).trans ?_
      rw [e0, e1, e2, e3, e4, e5, e6, e7, e12, e13, e14]
      exact (x_value m g c).symm

end Cert.KernelIdeal.Own
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Value
public import Idealize.ShloMosaic.Adequacy
public import Idealize.ShloMosaic.Init

@[expose] public section

noncomputable section

namespace Cert.Proof

open Idealize.ShloMosaic Idealize.SL.Sem

/-- From any memory the reference's program ends, its arguments unchanged; it declares no semaphore, so every counter
    is zero. -/
theorem reference_ends : Cert.quiescent_ReferenceIdeal (hReferenceIdeal := Cert.ReferenceIdeal.Gen.facts) :=
  fun m g _ => (θ_run (Cert.ReferenceIdeal.defs (F := Ideal)) _ _).mono
    (fun r h => ⟨fun c => (h c).2.2, Idealize.ShloMosaic.sem_eq_zero_of_no_sems (by decide) r.2⟩)
    (Cert.ReferenceIdeal.Value.run (F := Ideal) m g)

/-- Everything claimed: the kernel, its reading over the extended reals and the reference run and end quiescent, the
    idealization rewrote nothing, and the kernel's two results are the reference's. -/
theorem claim : Cert.Claim :=
  ⟨Cert.Kernel.Gen.facts, Cert.KernelIdeal.Gen.facts, Cert.ReferenceIdeal.Gen.facts, Cert.KernelIdeal.Own.pre_facts,
    fun m g _ => Cert.Kernel.Gen.frame m g,
    fun m g _ => Cert.KernelIdeal.Gen.frame m g,
    fun m g _ => Cert.KernelIdeal.Gen.frame m g,
    reference_ends,
    fun m g _ => reference_ends m g trivial,
    trivial,
    Cert.KernelIdeal.Own.algebraic⟩

end Cert.Proof

end
